-- ==== Defs.lean ====
def Pre_Kernel [hPre_lengths_in_range : Cert.Pre_lengths_in_range.Facts] (m : (ℓ : Loc Cert.Kernel.nD Cert.Kernel.τ Cert.Kernel.sig) → Buf (Elt Bits) ℓ) : Prop :=
  ∀ c : Dev Cert.Kernel.nD,
    (Cert.Pre_lengths_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_lengths_in_range : Cert.Pre_lengths_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lengths_in_range [hPre_lengths_in_range : Cert.Pre_lengths_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lengths_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_lengths_in_range : Cert.Pre_lengths_in_range.Facts] (m : (ℓ : Loc Cert.Reference.nD Cert.Reference.τ Cert.Reference.sig) → Buf (Elt Bits) ℓ) : Prop :=
  ∀ c : Dev Cert.Reference.nD,
    (Cert.Pre_lengths_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_lengths_in_range : Cert.Pre_lengths_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_lengths_in_range : Cert.Pre_lengths_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_lengths_in_range [hReferenceIdeal : Cert.ReferenceIdeal.Facts] [hPre_lengths_in_range : Cert.Pre_lengths_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lengths_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_lengths_in_range : Cert.Pre_lengths_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_lengths_in_range : Cert.Pre_lengths_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_lengths_in_range : Cert.Pre_lengths_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v16) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_lengths_in_range : Cert.Pre_lengths_in_range.Facts),
    quiescent_Kernel (hKernel := hKernel) (hPre_lengths_in_range := hPre_lengths_in_range)
    ∧ quiescent_KernelIdeal (hKernelIdeal := hKernelIdeal) (hPre_lengths_in_range := hPre_lengths_in_range)
    ∧ quiescent_ReferenceIdeal (hReferenceIdeal := hReferenceIdeal)
    ∧ quiescent_ReferenceIdeal_pre_lengths_in_range (hReferenceIdeal := hReferenceIdeal) (hPre_lengths_in_range := hPre_lengths_in_range)
    ∧ quiescent_Reference (hReference := hReference) (hPre_lengths_in_range := hPre_lengths_in_range)
    ∧ preserves_Kernel_KernelIdeal
    ∧ algebraic_KernelIdeal_ReferenceIdeal (hKernelIdeal := hKernelIdeal) (hReferenceIdeal := hReferenceIdeal) (hPre_lengths_in_range := hPre_lengths_in_range)
    ∧ bitexact_Kernel_Reference (hKernel := hKernel) (hReference := hReference) (hPre_lengths_in_range := hPre_lengths_in_range)
-- ==== Pre_lengths_in_range.lean ====
abbrev S16x4096x1024 : Shape := ⟨3, ![16, 4096, 1024]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S16x4096x1024 .f32) (main_arg1 : IVec S16 32) : IVec S_ 1 :=
  let main_c : IVec S_ 32 := constantI S_ 32 1#32
  let main_v0 : IVec S16 32 := broadcastInDim S16 ![] bcast_S_S16 main_c
  let main_v1 : IVec S16 1 := cmpi .sge main_arg1 main_v0
  let main_c_0 : IVec S_ 32 := constantI S_ 32 4096#32
  let main_v2 : IVec S16 32 := broadcastInDim S16 ![] bcast_S_S16 main_c_0
  let main_v3 : IVec S16 1 := cmpi .sle main_arg1 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  main_v5
-- ==== Kernel.lean ====
abbrev S16x4096x1024 : Shape := ⟨3, ![16, 4096, 1024]⟩
abbrev S16 : Shape := ⟨1, ![16]⟩
abbrev S65536x1024 : Shape := ⟨2, ![65536, 1024]⟩
abbrev S16x1024 : Shape := ⟨2, ![16, 1024]⟩
abbrev S_ : Shape := ⟨0, ![]⟩
abbrev S1 : Shape := ⟨1, ![1]⟩
abbrev S1x1024 : Shape := ⟨2, ![1, 1024]⟩

abbrev nBuf : Table → Nat
  | .hbm => 4
  | .local .scScalar .smem => 1
  | _ => 0

abbrev bufTy : (tb : Table) → Fin (nBuf tb) → BufTy
  | .hbm, ⟨0, _⟩ => ⟨S16x4096x1024, .f32⟩
  | .hbm, ⟨1, _⟩ => ⟨S16, .i32⟩
  | .hbm, ⟨2, _⟩ => ⟨S65536x1024, .f32⟩
  | .hbm, ⟨3, _⟩ => ⟨S16x1024, .f32⟩
  | .local .scScalar .smem, ⟨0, _⟩ => ⟨S16, .i32⟩
  | _, _ => ⟨S16x4096x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v0_scs : Ref sig .scScalar := ⟨.hbm, 2, rfl⟩
abbrev main_arg1_scs : Ref sig .scScalar := ⟨.hbm, 1, rfl⟩
abbrev main_v1_scs : Ref sig .scScalar := ⟨.hbm, 3, rfl⟩
abbrev cc0_scratch0 : Ref sig .scScalar := ⟨.smem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def k0_off1 (v1 : BitVec 32) : Fin 2 → Nat :=
  let c0_i32_0 : BitVec 32 := 0#32
  let v2 : BitVec 32 := Scalar.addi c0_i32_0 v1
  let c1_i32 : BitVec 32 := 1#32
  let v3 : BitVec 32 := Scalar.subi v2 c1_i32
  let c0_i32_3 : BitVec 32 := 0#32
  ![v3.toNat, 0]

def k0_off2 (v7 : BitVec 32) : Fin 2 → Nat :=
  let c4096_i32 : BitVec 32 := 4096#32
  let v8 : BitVec 32 := Scalar.addi c4096_i32 v7
  let c1_i32_5 : BitVec 32 := 1#32
  let v9 : BitVec 32 := Scalar.subi v8 c1_i32_5
  let c0_i32_8 : BitVec 32 := 0#32
  ![v9.toNat, 0]

def k0_off3 (v13 : BitVec 32) : Fin 2 → Nat :=
  let c8192_i32 : BitVec 32 := 8192#32
  let v14 : BitVec 32 := Scalar.addi c8192_i32 v13
  let c1_i32_9 : BitVec 32 := 1#32
  let v15 : BitVec 32 := Scalar.subi v14 c1_i32_9
  let c0_i32_12 : BitVec 32 := 0#32
  ![v15.toNat, 0]

def k0_off4 (v19 : BitVec 32) : Fin 2 → Nat :=
  let c12288_i32 : BitVec 32 := 12288#32
  let v20 : BitVec 32 := Scalar.addi c12288_i32 v19
  let c1_i32_13 : BitVec 32 := 1#32
  let v21 : BitVec 32 := Scalar.subi v20 c1_i32_13
  let c0_i32_16 : BitVec 32 := 0#32
  ![v21.toNat, 0]

def k0_off5 (v25 : BitVec 32) : Fin 2 → Nat :=
  let c16384_i32 : BitVec 32 := 16384#32
  let v26 : BitVec 32 := Scalar.addi c16384_i32 v25
  let c1_i32_17 : BitVec 32 := 1#32
  let v27 : BitVec 32 := Scalar.subi v26 c1_i32_17
  let c0_i32_20 : BitVec 32 := 0#32
  ![v27.toNat, 0]

def k0_off6 (v31 : BitVec 32) : Fin 2 → Nat :=
  let c20480_i32 : BitVec 32 := 20480#32
  let v32 : BitVec 32 := Scalar.addi c20480_i32 v31
  let c1_i32_21 : BitVec 32 := 1#32
  let v33 : BitVec 32 := Scalar.subi v32 c1_i32_21
  let c0_i32_24 : BitVec 32 := 0#32
  ![v33.toNat, 0]

def k0_off7 (v37 : BitVec 32) : Fin 2 → Nat :=
  let c24576_i32 : BitVec 32 := 24576#32
  let v38 : BitVec 32 := Scalar.addi c24576_i32 v37
  let c1_i32_25 : BitVec 32 := 1#32
  let v39 : BitVec 32 := Scalar.subi v38 c1_i32_25
  let c0_i32_28 : BitVec 32 := 0#32
  ![v39.toNat, 0]

def k0_off8 (v43 : BitVec 32) : Fin 2 → Nat :=
  let c28672_i32 : BitVec 32 := 28672#32
  let v44 : BitVec 32 := Scalar.addi c28672_i32 v43
  let c1_i32_29 : BitVec 32 := 1#32
  let v45 : BitVec 32 := Scalar.subi v44 c1_i32_29
  let c0_i32_32 : BitVec 32 := 0#32
  ![v45.toNat, 0]

def k0_off9 (v49 : BitVec 32) : Fin 2 → Nat :=
  let c32768_i32 : BitVec 32 := 32768#32
  let v50 : BitVec 32 := Scalar.addi c32768_i32 v49
  let c1_i32_33 : BitVec 32 := 1#32
  let v51 : BitVec 32 := Scalar.subi v50 c1_i32_33
  let c0_i32_36 : BitVec 32 := 0#32
  ![v51.toNat, 0]

def k0_off10 (v55 : BitVec 32) : Fin 2 → Nat :=
  let c36864_i32 : BitVec 32 := 36864#32
  let v56 : BitVec 32 := Scalar.addi c36864_i32 v55
  let c1_i32_37 : BitVec 32 := 1#32
  let v57 : BitVec 32 := Scalar.subi v56 c1_i32_37
  let c0_i32_40 : BitVec 32 := 0#32
  ![v57.toNat, 0]

def k0_off11 (v61 : BitVec 32) : Fin 2 → Nat :=
  let c40960_i32 : BitVec 32 := 40960#32
  let v62 : BitVec 32 := Scalar.addi c40960_i32 v61
  let c1_i32_41 : BitVec 32 := 1#32
  let v63 : BitVec 32 := Scalar.subi v62 c1_i32_41
  let c0_i32_44 : BitVec 32 := 0#32
  ![v63.toNat, 0]

def k0_off12 (v67 : BitVec 32) : Fin 2 → Nat :=
  let c45056_i32 : BitVec 32 := 45056#32
  let v68 : BitVec 32 := Scalar.addi c45056_i32 v67
  let c1_i32_45 : BitVec 32 := 1#32
  let v69 : BitVec 32 := Scalar.subi v68 c1_i32_45
  let c0_i32_48 : BitVec 32 := 0#32
  ![v69.toNat, 0]

def k0_off13 (v73 : BitVec 32) : Fin 2 → Nat :=
  let c49152_i32 : BitVec 32 := 49152#32
  let v74 : BitVec 32 := Scalar.addi c49152_i32 v73
  let c1_i32_49 : BitVec 32 := 1#32
  let v75 : BitVec 32 := Scalar.subi v74 c1_i32_49
  let c0_i32_52 : BitVec 32 := 0#32
  ![v75.toNat, 0]

def k0_off14 (v79 : BitVec 32) : Fin 2 → Nat :=
  let c53248_i32 : BitVec 32 := 53248#32
  let v80 : BitVec 32 := Scalar.addi c53248_i32 v79
  let c1_i32_53 : BitVec 32 := 1#32
  let v81 : BitVec 32 := Scalar.subi v80 c1_i32_53
  let c0_i32_56 : BitVec 32 := 0#32
  ![v81.toNat, 0]

def k0_off15 (v85 : BitVec 32) : Fin 2 → Nat :=
  let c57344_i32 : BitVec 32 := 57344#32
  let v86 : BitVec 32 := Scalar.addi c57344_i32 v85
  let c1_i32_57 : BitVec 32 := 1#32
  let v87 : BitVec 32 := Scalar.subi v86 c1_i32_57
  let c0_i32_60 : BitVec 32 := 0#32
  ![v87.toNat, 0]

def k0_off16 (v91 : BitVec 32) : Fin 2 → Nat :=
  let c61440_i32 : BitVec 32 := 61440#32
  let v92 : BitVec 32 := Scalar.addi c61440_i32 v91
  let c1_i32_61 : BitVec 32 := 1#32
  let v93 : BitVec 32 := Scalar.subi v92 c1_i32_61
  let c0_i32_64 : BitVec 32 := 0#32
  ![v93.toNat, 0]

def k0_chk16 (v91 : BitVec 32) : Prop :=
  (∀ a, (k0_off16 v91) a + S1x1024.size a ≤ S65536x1024.size a)
theorem k0_off16_inb : ∀ (v91 : BitVec 32) (k0_hw16 : k0_chk16 v91), ∀ a, (k0_off16 v91) a + S1x1024.size a ≤ S65536x1024.size a := fun v91 k0_hw16 => k0_hw16

def k0_off17 (v1 : BitVec 32) : Fin 2 → Nat :=
  let c0_i32_0 : BitVec 32 := 0#32
  let v2 : BitVec 32 := Scalar.addi c0_i32_0 v1
  let c1_i32 : BitVec 32 := 1#32
  let v3 : BitVec 32 := Scalar.subi v2 c1_i32
  let c0_i32_67 : BitVec 32 := 0#32
  ![v3.toNat, 0]

def k0_chk1 (v1 : BitVec 32) : Prop :=
  (∀ a, (k0_off1 v1) a + S1x1024.size a ≤ S65536x1024.size a) ∧
  (∀ a, (k0_off17 v1) a + S1x1024.size a ≤ S65536x1024.size a)
theorem k0_off1_inb : ∀ (v1 : BitVec 32) (k0_hw1 : k0_chk1 v1), ∀ a, (k0_off1 v1) a + S1x1024.size a ≤ S65536x1024.size a := fun v1 k0_hw1 => k0_hw1.1
theorem k0_off17_inb : ∀ (v1 : BitVec 32) (k0_hw1 : k0_chk1 v1), ∀ a, (k0_off17 v1) a + S1x1024.size a ≤ S65536x1024.size a := fun v1 k0_hw1 => k0_hw1.2

def k0_off18 (v7 : BitVec 32) : Fin 2 → Nat :=
  let c4096_i32 : BitVec 32 := 4096#32
  let v8 : BitVec 32 := Scalar.addi c4096_i32 v7
  let c1_i32_5 : BitVec 32 := 1#32
  let v9 : BitVec 32 := Scalar.subi v8 c1_i32_5
  let c0_i32_70 : BitVec 32 := 0#32
  ![v9.toNat, 0]

def k0_chk2 (v7 : BitVec 32) : Prop :=
  (∀ a, (k0_off2 v7) a + S1x1024.size a ≤ S65536x1024.size a) ∧
  (∀ a, (k0_off18 v7) a + S1x1024.size a ≤ S65536x1024.size a)
theorem k0_off2_inb : ∀ (v7 : BitVec 32) (k0_hw2 : k0_chk2 v7), ∀ a, (k0_off2 v7) a + S1x1024.size a ≤ S65536x1024.size a := fun v7 k0_hw2 => k0_hw2.1
theorem k0_off18_inb : ∀ (v7 : BitVec 32) (k0_hw2 : k0_chk2 v7), ∀ a, (k0_off18 v7) a + S1x1024.size a ≤ S65536x1024.size a := fun v7 k0_hw2 => k0_hw2.2

def k0_off19 (v13 : BitVec 32) : Fin 2 → Nat :=
  let c8192_i32 : BitVec 32 := 8192#32
  let v14 : BitVec 32 := Scalar.addi c8192_i32 v13
  let c1_i32_9 : BitVec 32 := 1#32
  let v15 : BitVec 32 := Scalar.subi v14 c1_i32_9
  let c0_i32_73 : BitVec 32 := 0#32
  ![v15.toNat, 0]

def k0_chk3 (v13 : BitVec 32) : Prop :=
  (∀ a, (k0_off3 v13) a + S1x1024.size a ≤ S65536x1024.size a) ∧
  (∀ a, (k0_off19 v13) a + S1x1024.size a ≤ S65536x1024.size a)
theorem k0_off3_inb : ∀ (v13 : BitVec 32) (k0_hw3 : k0_chk3 v13), ∀ a, (k0_off3 v13) a + S1x1024.size a ≤ S65536x1024.size a := fun v13 k0_hw3 => k0_hw3.1
theorem k0_off19_inb : ∀ (v13 : BitVec 32) (k0_hw3 : k0_chk3 v13), ∀ a, (k0_off19 v13) a + S1x1024.size a ≤ S65536x1024.size a := fun v13 k0_hw3 => k0_hw3.2

def k0_off20 (v19 : BitVec 32) : Fin 2 → Nat :=
  let c12288_i32 : BitVec 32 := 12288#32
  let v20 : BitVec 32 := Scalar.addi c12288_i32 v19
  let c1_i32_13 : BitVec 32 := 1#32
  let v21 : BitVec 32 := Scalar.subi v20 c1_i32_13
  let c0_i32_76 : BitVec 32 := 0#32
  ![v21.toNat, 0]

def k0_chk4 (v19 : BitVec 32) : Prop :=
  (∀ a, (k0_off4 v19) a + S1x1024.size a ≤ S65536x1024.size a) ∧
  (∀ a, (k0_off20 v19) a + S1x1024.size a ≤ S65536x1024.size a)
theorem k0_off4_inb : ∀ (v19 : BitVec 32) (k0_hw4 : k0_chk4 v19), ∀ a, (k0_off4 v19) a + S1x1024.size a ≤ S65536x1024.size a := fun v19 k0_hw4 => k0_hw4.1
theorem k0_off20_inb : ∀ (v19 : BitVec 32) (k0_hw4 : k0_chk4 v19), ∀ a, (k0_off20 v19) a + S1x1024.size a ≤ S65536x1024.size a := fun v19 k0_hw4 => k0_hw4.2

def k0_off21 (v25 : BitVec 32) : Fin 2 → Nat :=
  let c16384_i32 : BitVec 32 := 16384#32
  let v26 : BitVec 32 := Scalar.addi c16384_i32 v25
  let c1_i32_17 : BitVec 32 := 1#32
  let v27 : BitVec 32 := Scalar.subi v26 c1_i32_17
  let c0_i32_79 : BitVec 32 := 0#32
  ![v27.toNat, 0]

def k0_chk5 (v25 : BitVec 32) : Prop :=
  (∀ a, (k0_off5 v25) a + S1x1024.size a ≤ S65536x1024.size a) ∧
  (∀ a, (k0_off21 v25) a + S1x1024.size a ≤ S65536x1024.size a)
theorem k0_off5_inb : ∀ (v25 : BitVec 32) (k0_hw5 : k0_chk5 v25), ∀ a, (k0_off5 v25) a + S1x1024.size a ≤ S65536x1024.size a := fun v25 k0_hw5 => k0_hw5.1
theorem k0_off21_inb : ∀ (v25 : BitVec 32) (k0_hw5 : k0_chk5 v25), ∀ a, (k0_off21 v25) a + S1x1024.size a ≤ S65536x1024.size a := fun v25 k0_hw5 => k0_hw5.2

def k0_off22 (v31 : BitVec 32) : Fin 2 → Nat :=
  let c20480_i32 : BitVec 32 := 20480#32
  let v32 : BitVec 32 := Scalar.addi c20480_i32 v31
  let c1_i32_21 : BitVec 32 := 1#32
  let v33 : BitVec 32 := Scalar.subi v32 c1_i32_21
  let c0_i32_82 : BitVec 32 := 0#32
  ![v33.toNat, 0]

def k0_chk6 (v31 : BitVec 32) : Prop :=
  (∀ a, (k0_off6 v31) a + S1x1024.size a ≤ S65536x1024.size a) ∧
  (∀ a, (k0_off22 v31) a + S1x1024.size a ≤ S65536x1024.size a)
theorem k0_off6_inb : ∀ (v31 : BitVec 32) (k0_hw6 : k0_chk6 v31), ∀ a, (k0_off6 v31) a + S1x1024.size a ≤ S65536x1024.size a := fun v31 k0_hw6 => k0_hw6.1
theorem k0_off22_inb : ∀ (v31 : BitVec 32) (k0_hw6 : k0_chk6 v31), ∀ a, (k0_off22 v31) a + S1x1024.size a ≤ S65536x1024.size a := fun v31 k0_hw6 => k0_hw6.2

def k0_off23 (v37 : BitVec 32) : Fin 2 → Nat :=
  let c24576_i32 : BitVec 32 := 24576#32
  let v38 : BitVec 32 := Scalar.addi c24576_i32 v37
  let c1_i32_25 : BitVec 32 := 1#32
  let v39 : BitVec 32 := Scalar.subi v38 c1_i32_25
  let c0_i32_85 : BitVec 32 := 0#32
  ![v39.toNat, 0]

def k0_chk7 (v37 : BitVec 32) : Prop :=
  (∀ a, (k0_off7 v37) a + S1x1024.size a ≤ S65536x1024.size a) ∧
  (∀ a, (k0_off23 v37) a + S1x1024.size a ≤ S65536x1024.size a)
theorem k0_off7_inb : ∀ (v37 : BitVec 32) (k0_hw7 : k0_chk7 v37), ∀ a, (k0_off7 v37) a + S1x1024.size a ≤ S65536x1024.size a := fun v37 k0_hw7 => k0_hw7.1
theorem k0_off23_inb : ∀ (v37 : BitVec 32) (k0_hw7 : k0_chk7 v37), ∀ a, (k0_off23 v37) a + S1x1024.size a ≤ S65536x1024.size a := fun v37 k0_hw7 => k0_hw7.2

def k0_off24 (v43 : BitVec 32) : Fin 2 → Nat :=
  let c28672_i32 : BitVec 32 := 28672#32
  let v44 : BitVec 32 := Scalar.addi c28672_i32 v43
  let c1_i32_29 : BitVec 32 := 1#32
  let v45 : BitVec 32 := Scalar.subi v44 c1_i32_29
  let c0_i32_88 : BitVec 32 := 0#32
  ![v45.toNat, 0]

def k0_chk8 (v43 : BitVec 32) : Prop :=
  (∀ a, (k0_off8 v43) a + S1x1024.size a ≤ S65536x1024.size a) ∧
  (∀ a, (k0_off24 v43) a + S1x1024.size a ≤ S65536x1024.size a)
theorem k0_off8_inb : ∀ (v43 : BitVec 32) (k0_hw8 : k0_chk8 v43), ∀ a, (k0_off8 v43) a + S1x1024.size a ≤ S65536x1024.size a := fun v43 k0_hw8 => k0_hw8.1
theorem k0_off24_inb : ∀ (v43 : BitVec 32) (k0_hw8 : k0_chk8 v43), ∀ a, (k0_off24 v43) a + S1x1024.size a ≤ S65536x1024.size a := fun v43 k0_hw8 => k0_hw8.2

def k0_off25 (v49 : BitVec 32) : Fin 2 → Nat :=
  let c32768_i32 : BitVec 32 := 32768#32
  let v50 : BitVec 32 := Scalar.addi c32768_i32 v49
  let c1_i32_33 : BitVec 32 := 1#32
  let v51 : BitVec 32 := Scalar.subi v50 c1_i32_33
  let c0_i32_91 : BitVec 32 := 0#32
  ![v51.toNat, 0]

def k0_chk9 (v49 : BitVec 32) : Prop :=
  (∀ a, (k0_off9 v49) a + S1x1024.size a ≤ S65536x1024.size a) ∧
  (∀ a, (k0_off25 v49) a + S1x1024.size a ≤ S65536x1024.size a)
theorem k0_off9_inb : ∀ (v49 : BitVec 32) (k0_hw9 : k0_chk9 v49), ∀ a, (k0_off9 v49) a + S1x1024.size a ≤ S65536x1024.size a := fun v49 k0_hw9 => k0_hw9.1
theorem k0_off25_inb : ∀ (v49 : BitVec 32) (k0_hw9 : k0_chk9 v49), ∀ a, (k0_off25 v49) a + S1x1024.size a ≤ S65536x1024.size a := fun v49 k0_hw9 => k0_hw9.2

def k0_off26 (v55 : BitVec 32) : Fin 2 → Nat :=
  let c36864_i32 : BitVec 32 := 36864#32
  let v56 : BitVec 32 := Scalar.addi c36864_i32 v55
  let c1_i32_37 : BitVec 32 := 1#32
  let v57 : BitVec 32 := Scalar.subi v56 c1_i32_37
  let c0_i32_94 : BitVec 32 := 0#32
  ![v57.toNat, 0]

def k0_chk10 (v55 : BitVec 32) : Prop :=
  (∀ a, (k0_off10 v55) a + S1x1024.size a ≤ S65536x1024.size a) ∧
  (∀ a, (k0_off26 v55) a + S1x1024.size a ≤ S65536x1024.size a)
theorem k0_off10_inb : ∀ (v55 : BitVec 32) (k0_hw10 : k0_chk10 v55), ∀ a, (k0_off10 v55) a + S1x1024.size a ≤ S65536x1024.size a := fun v55 k0_hw10 => k0_hw10.1
theorem k0_off26_inb : ∀ (v55 : BitVec 32) (k0_hw10 : k0_chk10 v55), ∀ a, (k0_off26 v55) a + S1x1024.size a ≤ S65536x1024.size a := fun v55 k0_hw10 => k0_hw10.2

def k0_off27 (v61 : BitVec 32) : Fin 2 → Nat :=
  let c40960_i32 : BitVec 32 := 40960#32
  let v62 : BitVec 32 := Scalar.addi c40960_i32 v61
  let c1_i32_41 : BitVec 32 := 1#32
  let v63 : BitVec 32 := Scalar.subi v62 c1_i32_41
  let c0_i32_97 : BitVec 32 := 0#32
  ![v63.toNat, 0]

def k0_chk11 (v61 : BitVec 32) : Prop :=
  (∀ a, (k0_off11 v61) a + S1x1024.size a ≤ S65536x1024.size a) ∧
  (∀ a, (k0_off27 v61) a + S1x1024.size a ≤ S65536x1024.size a)
theorem k0_off11_inb : ∀ (v61 : BitVec 32) (k0_hw11 : k0_chk11 v61), ∀ a, (k0_off11 v61) a + S1x1024.size a ≤ S65536x1024.size a := fun v61 k0_hw11 => k0_hw11.1
theorem k0_off27_inb : ∀ (v61 : BitVec 32) (k0_hw11 : k0_chk11 v61), ∀ a, (k0_off27 v61) a + S1x1024.size a ≤ S65536x1024.size a := fun v61 k0_hw11 => k0_hw11.2

def k0_off28 (v67 : BitVec 32) : Fin 2 → Nat :=
  let c45056_i32 : BitVec 32 := 45056#32
  let v68 : BitVec 32 := Scalar.addi c45056_i32 v67
  let c1_i32_45 : BitVec 32 := 1#32
  let v69 : BitVec 32 := Scalar.subi v68 c1_i32_45
  let c0_i32_100 : BitVec 32 := 0#32
  ![v69.toNat, 0]

def k0_chk12 (v67 : BitVec 32) : Prop :=
  (∀ a, (k0_off12 v67) a + S1x1024.size a ≤ S65536x1024.size a) ∧
  (∀ a, (k0_off28 v67) a + S1x1024.size a ≤ S65536x1024.size a)
theorem k0_off12_inb : ∀ (v67 : BitVec 32) (k0_hw12 : k0_chk12 v67), ∀ a, (k0_off12 v67) a + S1x1024.size a ≤ S65536x1024.size a := fun v67 k0_hw12 => k0_hw12.1
theorem k0_off28_inb : ∀ (v67 : BitVec 32) (k0_hw12 : k0_chk12 v67), ∀ a, (k0_off28 v67) a + S1x1024.size a ≤ S65536x1024.size a := fun v67 k0_hw12 => k0_hw12.2

def k0_off29 (v73 : BitVec 32) : Fin 2 → Nat :=
  let c49152_i32 : BitVec 32 := 49152#32
  let v74 : BitVec 32 := Scalar.addi c49152_i32 v73
  let c1_i32_49 : BitVec 32 := 1#32
  let v75 : BitVec 32 := Scalar.subi v74 c1_i32_49
  let c0_i32_103 : BitVec 32 := 0#32
  ![v75.toNat, 0]

def k0_chk13 (v73 : BitVec 32) : Prop :=
  (∀ a, (k0_off13 v73) a + S1x1024.size a ≤ S65536x1024.size a) ∧
  (∀ a, (k0_off29 v73) a + S1x1024.size a ≤ S65536x1024.size a)
theorem k0_off13_inb : ∀ (v73 : BitVec 32) (k0_hw13 : k0_chk13 v73), ∀ a, (k0_off13 v73) a + S1x1024.size a ≤ S65536x1024.size a := fun v73 k0_hw13 => k0_hw13.1
theorem k0_off29_inb : ∀ (v73 : BitVec 32) (k0_hw13 : k0_chk13 v73), ∀ a, (k0_off29 v73) a + S1x1024.size a ≤ S65536x1024.size a := fun v73 k0_hw13 => k0_hw13.2

def k0_off30 (v79 : BitVec 32) : Fin 2 → Nat :=
  let c53248_i32 : BitVec 32 := 53248#32
  let v80 : BitVec 32 := Scalar.addi c53248_i32 v79
  let c1_i32_53 : BitVec 32 := 1#32
  let v81 : BitVec 32 := Scalar.subi v80 c1_i32_53
  let c0_i32_106 : BitVec 32 := 0#32
  ![v81.toNat, 0]

def k0_chk14 (v79 : BitVec 32) : Prop :=
  (∀ a, (k0_off14 v79) a + S1x1024.size a ≤ S65536x1024.size a) ∧
  (∀ a, (k0_off30 v79) a + S1x1024.size a ≤ S65536x1024.size a)
theorem k0_off14_inb : ∀ (v79 : BitVec 32) (k0_hw14 : k0_chk14 v79), ∀ a, (k0_off14 v79) a + S1x1024.size a ≤ S65536x1024.size a := fun v79 k0_hw14 => k0_hw14.1
theorem k0_off30_inb : ∀ (v79 : BitVec 32) (k0_hw14 : k0_chk14 v79), ∀ a, (k0_off30 v79) a + S1x1024.size a ≤ S65536x1024.size a := fun v79 k0_hw14 => k0_hw14.2

def k0_off31 (v85 : BitVec 32) : Fin 2 → Nat :=
  let c57344_i32 : BitVec 32 := 57344#32
  let v86 : BitVec 32 := Scalar.addi c57344_i32 v85
  let c1_i32_57 : BitVec 32 := 1#32
  let v87 : BitVec 32 := Scalar.subi v86 c1_i32_57
  let c0_i32_109 : BitVec 32 := 0#32
  ![v87.toNat, 0]

def k0_chk15 (v85 : BitVec 32) : Prop :=
  (∀ a, (k0_off15 v85) a + S1x1024.size a ≤ S65536x1024.size a) ∧
  (∀ a, (k0_off31 v85) a + S1x1024.size a ≤ S65536x1024.size a)
theorem k0_off15_inb : ∀ (v85 : BitVec 32) (k0_hw15 : k0_chk15 v85), ∀ a, (k0_off15 v85) a + S1x1024.size a ≤ S65536x1024.size a := fun v85 k0_hw15 => k0_hw15.1
theorem k0_off31_inb : ∀ (v85 : BitVec 32) (k0_hw15 : k0_chk15 v85), ∀ a, (k0_off31 v85) a + S1x1024.size a ≤ S65536x1024.size a := fun v85 k0_hw15 => k0_hw15.2

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S16x4096x1024 : Shape := ⟨3, ![16, 4096, 1024]⟩
abbrev S16 : Shape := ⟨1, ![16]⟩
abbrev S_ : Shape := ⟨0, ![]⟩
abbrev S16x1 : Shape := ⟨2, ![16, 1]⟩
abbrev S16x2 : Shape := ⟨2, ![16, 2]⟩
abbrev S16x1024 : Shape := ⟨2, ![16, 1024]⟩

abbrev nBuf : Space → Nat
  | .hbm => 24
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16, .i32⟩
  | .hbm, ⟨2, _⟩ => ⟨S16, .i32⟩
  | .hbm, ⟨3, _⟩ => ⟨S_, .i32⟩
  | .hbm, ⟨4, _⟩ => ⟨S16, .i32⟩
  | .hbm, ⟨5, _⟩ => ⟨S16, .i32⟩
  | .hbm, ⟨6, _⟩ => ⟨S_, .i32⟩
  | .hbm, ⟨7, _⟩ => ⟨S16, .i32⟩
  | .hbm, ⟨8, _⟩ => ⟨S16, .i1⟩
  | .hbm, ⟨9, _⟩ => ⟨S_, .i32⟩
  | .hbm, ⟨10, _⟩ => ⟨S16, .i32⟩
  | .hbm, ⟨11, _⟩ => ⟨S16, .i32⟩
  | .hbm, ⟨12, _⟩ => ⟨S16, .i32⟩
  | .hbm, ⟨13, _⟩ => ⟨S_, .i32⟩
  | .hbm, ⟨14, _⟩ => ⟨S16, .i32⟩
  | .hbm, ⟨15, _⟩ => ⟨S16, .i1⟩
  | .hbm, ⟨16, _⟩ => ⟨S_, .i32⟩
  | .hbm, ⟨17, _⟩ => ⟨S16, .i32⟩
  | .hbm, ⟨18, _⟩ => ⟨S16, .i32⟩
  | .hbm, ⟨19, _⟩ => ⟨S16, .i32⟩
  | .hbm, ⟨20, _⟩ => ⟨S16x1, .i32⟩
  | .hbm, ⟨21, _⟩ => ⟨S16x1, .i32⟩
  | .hbm, ⟨22, _⟩ => ⟨S16x2, .i32⟩
  | .hbm, ⟨23, _⟩ => ⟨S16x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_c_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Proof.Rows.lean ====
/- The kernel as a program over a list of rows. The printed body writes its sixteen rows out one after another; here it is
   shown to be one copy of the lengths, then for every row of a list a load, a check and the start of a copy, then for
   every row started a wait. The run (Body.lean) is an induction along that list. -/
module

public import proofs.«01_k».proof.Defs
public import proofs.«01_k».proof.Proof.Gen.KernelIdeal
public import proofs.«01_k».proof.Proof.Gen.KernelIdeal.Skeleton

@[expose] public section

set_option maxRecDepth 65536

noncomputable section

namespace Cert.Proof.Rows

open Cert.KernelIdeal Cert.KernelIdeal.Gen
open Idealize.ShloMosaic Idealize.SL.Sem

variable {F : FTy → Type} [FloatOps F]

/-- Where row `b`'s source row starts in the table of 65536 rows when the word read is `v`: row `4096·b + v - 1`, in
    32-bit words as the kernel computes it. -/
def rowOff (b : Fin 16) (v : BitVec 32) : Fin 2 → ℕ := ![(BitVec.ofNat 32 (4096 * b.val) + v - 1#32).toNat, 0]

/-- The one-row window of the table at `rowOff b v` lies inside the table. -/
abbrev InTable (b : Fin 16) (v : BitVec 32) : Prop := ∀ a, rowOff b v a + S1x1024.size a ≤ S65536x1024.size a

/-- The side condition that the printed body checks of row `b`'s word. -/
def Chk : Fin 16 → BitVec 32 → Prop
  | 0 => k0_chk1 | 1 => k0_chk2 | 2 => k0_chk3 | 3 => k0_chk4 | 4 => k0_chk5 | 5 => k0_chk6 | 6 => k0_chk7 | 7 => k0_chk8
  | 8 => k0_chk9 | 9 => k0_chk10 | 10 => k0_chk11 | 11 => k0_chk12 | 12 => k0_chk13 | 13 => k0_chk14 | 14 => k0_chk15 | 15 => k0_chk16
  | ⟨_ + 16, h⟩ => absurd h (by omega)

/-- It is decidable, as the printed body decides it. -/
def chkDec : (b : Fin 16) → (v : BitVec 32) → Decidable (Chk b v)
  | 0 => k0_chk1.dec | 1 => k0_chk2.dec | 2 => k0_chk3.dec | 3 => k0_chk4.dec | 4 => k0_chk5.dec | 5 => k0_chk6.dec
  | 6 => k0_chk7.dec | 7 => k0_chk8.dec | 8 => k0_chk9.dec | 9 => k0_chk10.dec | 10 => k0_chk11.dec | 11 => k0_chk12.dec
  | 12 => k0_chk13.dec | 13 => k0_chk14.dec | 14 => k0_chk15.dec | 15 => k0_chk16.dec
  | ⟨_ + 16, h⟩ => absurd h (by omega)

/-- The check says that the row's window lies inside the table: -/
theorem inTable_of_chk : (b : Fin 16) → (v : BitVec 32) → Chk b v → InTable b v
  | 0, _, h | 1, _, h | 2, _, h | 3, _, h | 4, _, h | 5, _, h | 6, _, h | 7, _, h | 8, _, h | 9, _, h | 10, _, h | 11, _, h
  | 12, _, h | 13, _, h | 14, _, h => h.1
  | 15, _, h => h
  | ⟨_ + 16, h⟩, _, _ => absurd h (by omega)

/-- and no more than that. -/
theorem chk_of_inTable (b : Fin 16) (v : BitVec 32) (h : InTable b v) : Chk b v := by
  obtain ⟨n, hn⟩ := b
  interval_cases n
  all_goals first | exact (⟨h, h⟩ : _ ∧ _) | exact h

/-- Position `b` lies inside the lengths. -/
theorem inb_len (b : Fin 16) : ∀ a, (![b.val] : Fin 1 → ℕ) a + S1.size a ≤ S16.size a :=
  fun a => match a with | 0 => b.isLt

/-- Row `b` lies inside the result. -/
theorem inb_out (b : Fin 16) : ∀ a, (![b.val, 0] : Fin 2 → ℕ) a + S1x1024.size a ≤ S16x1024.size a :=
  Rect.inb₂ b.isLt (Nat.le_refl 1024)

section Prog

variable {i : grid0.Coords}
variable (xs : Memref sig .scScalar .hbm S65536x1024 .f32) (os : Memref sig .scScalar .hbm S16x1024 .f32)
variable (ln : Memref sig .scScalar .smem S16 .i32) (cell : DmaSem sig)

/-- The window of the table that row `b` copies from when its word is `v`. -/
abbrev src (b : Fin 16) (v : BitVec 32) (h : InTable b v) : Memref sig .scScalar .hbm S1x1024 .f32 :=
  xs.slice (Rect.unit (s := S65536x1024) (rowOff b v) S1x1024.size h) (fun _ => rfl)

/-- Row `b` of the result. -/
abbrev dst (b : Fin 16) : Memref sig .scScalar .hbm S1x1024 .f32 :=
  os.slice (Rect.unit (s := S16x1024) ![b.val, 0] S1x1024.size (inb_out b)) (fun _ => rfl)

/-- A row started: its number, its word, and the check of that word. -/
abbrev Started : Type := (b : Fin 16) ×' (v : BitVec 32) ×' Chk b v

/-- A wait for every row started, in the order of the list. -/
def waits : List Started → Prog (TpuEff nD τ sig (Elt F) Λ₀ (.scScalar ((i 0).castLE hcore0))) PUnit
  | [] => .ret ⟨⟩
  | p :: ps => .op (.waitDma2 cell (src xs p.1 p.2.1 (inTable_of_chk _ _ p.2.2)) (dst os p.1) (View.wordExact_bits rfl) (View.wordExact_bits rfl))
      fun _ => waits ps

/-- For every row of the list its word's load, the check and the start of its copy; then the waits for all rows started,
    `ps` the ones started before. -/
def rows : List (Fin 16) → List Started → Prog (TpuEff nD τ sig (Elt F) Λ₀ (.scScalar ((i 0).castLE hcore0))) PUnit
  | [], ps => waits xs os cell ps
  | b :: bs, ps => smemLoadElt ln (Rect.unit (s := S16) ![b.val] S1.size (inb_len b)) (View.loads_smem_one rfl numel1_S1)
      (Shape.Idx.first (numel1_S1.symm ▸ Nat.one_pos)) fun v : BitVec 32 =>
        .op (.assume (Chk b v) (chkDec b v)) fun h =>
          .op (.enqueueDma (src xs b v (inTable_of_chk _ _ h.down)) (.here (dst os b)) (.dma cell) (View.wordExact_bits rfl) (View.wordExact_bits rfl)
            ⟨Or.inl rfl, trivial⟩) fun _ => rows bs (ps ++ [⟨b, v, h.down⟩])

end Prog

/-- The printed kernel is the copy of the lengths into scalar memory, its wait, and `rows` over rows 0, …, 15. -/
theorem kernel_eq (i : grid0.Coords) (xs : Memref sig .scScalar .hbm S65536x1024 .f32) (hxs : xs.IsWhole)
    (ls : Memref sig .scScalar .hbm S16 .i32) (hls : ls.IsWhole) (os : Memref sig .scScalar .hbm S16x1024 .f32) (hos : os.IsWhole)
    (ln : Memref sig .scScalar .smem S16 .i32) (hln : ln.IsWhole) (cell : DmaSems sig S_) (cell' : DmaSems sig S_) :
    cc0_k (F := F) i xs hxs ls hls os hos ln hln cell cell'
      = .op (.enqueueDma ls (.here ln) (.dma cell'.sem) hls.wordExact hln.wordExact ⟨Or.inl rfl, trivial⟩) fun _ =>
          .op (.waitDma2 cell'.sem ls ln hls.wordExact hln.wordExact) fun _ =>
            rows xs os ln cell.sem (List.finRange 16) [] := by
  rw [show List.finRange 16 = [0, 1, 2, 3, 4, 5, 6, 7, 8, 9, 10, 11, 12, 13, 14, 15] by decide]
  simp only [cc0_k_eq_skeleton]
  rfl

end Cert.Proof.Rows

end
-- ==== Proof.Landing.lean ====
/- What the sixteen row copies leave. The table's rows that they read are pairwise different, the result's rows that they
   write are all of it, and what row `b`'s copy writes is row `b` of one array, `lastRows`. -/
module

public import proofs.«01_k».proof.Proof.Rows
public import Idealize.ShloMosaic.Lib.ViewIndex

@[expose] public section

noncomputable section

namespace Cert.Proof.Rows

open Cert.KernelIdeal Cert.KernelIdeal.Gen
open Idealize.ShloMosaic

variable {F : FTy → Type}

/-- The kernel's arrays as its memrefs name them: the table of rows, -/
abbrev xsM : Memref sig .scScalar .hbm S65536x1024 .f32 := Memref.whole main_v0_scs
/-- the lengths, -/
abbrev lsM : Memref sig .scScalar .hbm S16 .i32 := Memref.whole main_arg1_scs
/-- the result, -/
abbrev osM : Memref sig .scScalar .hbm S16x1024 .f32 := Memref.whole main_v1_scs
/-- and the lengths' copy in scalar memory. -/
abbrev lnM : Memref sig .scScalar .smem S16 .i32 := Memref.whole cc0_scratch0

/-- The one word at position `b` of the lengths. -/
abbrev wordRect (b : Fin 16) : Rect S16 := Rect.unit (s := S16) ![b.val] S1.size (inb_len b)

/-- The length that the kernel reads for row `b`. -/
def word (Ln : S16.Idx → BitVec 32) (b : Fin 16) : BitVec 32 :=
  Ln ((wordRect b).emb (Shape.Idx.first (numel1_S1.symm ▸ Nat.one_pos)))

/-- It is the length at position `b`. -/
theorem word_eq (Ln : S16.Idx → BitVec 32) (i : S16.Idx) : word Ln (i 0) = Ln i :=
  congrArg Ln (Shape.idx1_ext (by
    rw [Rect.emb_apply]
    have h := (Shape.Idx.first (s := (wordRect (i 0)).shape) (numel1_S1.symm ▸ Nat.one_pos) 0).isLt
    change _ < 1 at h
    show (i 0).val + 1 * _ = (i 0).val
    omega))

/-- Every row's window lies inside the table. -/
abbrev AllInTable (Ln : S16.Idx → BitVec 32) : Prop := ∀ b : Fin 16, InTable b (word Ln b)

/-- A result's index as an index of its row alone. -/
def inRow (i : S16x1024.Idx) : S1x1024.Idx := fun | 0 => ⟨0, Nat.one_pos⟩ | 1 => i 1

/-- The table's element that the result's element `i` is copied from. -/
def srcIdx (Ln : S16.Idx → BitVec 32) (h : AllInTable Ln) (i : S16x1024.Idx) : S65536x1024.Idx :=
  (Rect.unit (s := S65536x1024) (rowOff (i 0) (word Ln (i 0))) S1x1024.size (h (i 0))).emb (inRow i)

/-- The result: row `b` is the table's row `4096·b + length b - 1`. -/
def lastRows (X : S65536x1024.Idx → Elt F .f32) (Ln : S16.Idx → BitVec 32) (h : AllInTable Ln) : S16x1024.Idx → Elt F .f32 :=
  fun i => X (srcIdx Ln h i)

/-- The elements of the result in row `b`. -/
abbrev rowSet (b : Fin 16) : Finset S16x1024.Idx := (dst osM b).view.set
/-- The elements of the table that row `b`'s copy reads. -/
abbrev srcSet (b : Fin 16) (v : BitVec 32) (h : InTable b v) : Finset S65536x1024.Idx := (src xsM b v h).view.set

/-- An element lies in row `b` of the result when its first coordinate is `b`. -/
theorem mem_rowSet {b : Fin 16} {i : S16x1024.Idx} : i ∈ rowSet b ↔ i 0 = b := by
  rw [show rowSet b = (Rect.unit (s := S16x1024) ![b.val, 0] S1x1024.size (inb_out b)).set from View.set_slice_whole _ _, Rect.mem_set_unit, Fin.forall_fin_two]
  refine Iff.trans ?_ (Fin.ext_iff (n := 16) (a := i 0) (b := b)).symm
  have h1 := (i 1).isLt
  change _ < 1024 at h1
  change (b.val ≤ (i 0).val ∧ (i 0).val < b.val + 1) ∧ (0 ≤ (i 1).val ∧ (i 1).val < 0 + 1024) ↔ _
  omega

/-- The rows are the whole result, -/
theorem rowSet_univ : Finset.univ.biUnion rowSet = Finset.univ := by
  ext i
  simp only [Finset.mem_biUnion, Finset.mem_univ, true_and, iff_true]
  exact ⟨i 0, mem_rowSet.mpr rfl⟩

/-- and no two of them meet. -/
theorem rowSet_disjoint {b b' : Fin 16} (h : b ≠ b') : Disjoint (rowSet b) (rowSet b') :=
  Finset.disjoint_left.mpr fun _ hi hi' => h ((mem_rowSet.mp hi).symm.trans (mem_rowSet.mp hi'))

/-- An element is read by row `b`'s copy when its first coordinate is the copy's row of the table. -/
theorem mem_srcSet {b : Fin 16} {v : BitVec 32} {h : InTable b v} {i : S65536x1024.Idx} :
    i ∈ srcSet b v h ↔ (i 0).val = rowOff b v 0 := by
  rw [show srcSet b v h = (Rect.unit (s := S65536x1024) (rowOff b v) S1x1024.size h).set from View.set_slice_whole _ _, Rect.mem_set_unit, Fin.forall_fin_two]
  have h1 := (i 1).isLt
  change _ < 1024 at h1
  change (rowOff b v 0 ≤ (i 0).val ∧ (i 0).val < rowOff b v 0 + 1) ∧ (0 ≤ (i 1).val ∧ (i 1).val < 0 + 1024) ↔ _
  omega

/-- The lengths are between 1 and 4096. -/
abbrev InRange (Ln : S16.Idx → BitVec 32) : Prop := ∀ b : Fin 16, 1 ≤ (word Ln b).toNat ∧ (word Ln b).toNat ≤ 4096

/-- At such a length the row read is row `4096·b + length - 1`: nothing wraps around. -/
theorem rowOff_zero {b : Fin 16} {v : BitVec 32} (h : 1 ≤ v.toNat ∧ v.toNat ≤ 4096) : rowOff b v 0 = 4096 * b.val + (v.toNat - 1) := by
  have hb := b.isLt
  show (BitVec.ofNat 32 (4096 * b.val) + v - 1#32).toNat = _
  rw [BitVec.toNat_sub, BitVec.toNat_add, BitVec.toNat_ofNat, BitVec.toNat_ofNat]
  omega

/-- So it is a row of the table. -/
theorem inTable_of_range {b : Fin 16} {v : BitVec 32} (h : 1 ≤ v.toNat ∧ v.toNat ≤ 4096) : InTable b v := by
  have hb := b.isLt
  refine Fin.forall_fin_two.mpr ⟨?_, Nat.le_refl 1024⟩
  rw [rowOff_zero h]
  show _ + 1 ≤ 65536
  omega

/-- No two of the rows read meet: row `b`'s lies among the 4096 rows from `4096·b`. -/
theorem srcSet_disjoint {b b' : Fin 16} {v v' : BitVec 32} (hv : 1 ≤ v.toNat ∧ v.toNat ≤ 4096) (hv' : 1 ≤ v'.toNat ∧ v'.toNat ≤ 4096)
    (h : b ≠ b') : Disjoint (srcSet b v (inTable_of_range hv)) (srcSet b' v' (inTable_of_range hv')) := by
  refine Finset.disjoint_left.mpr fun i hi hi' => h (Fin.ext ?_)
  rw [mem_srcSet, rowOff_zero hv] at hi
  rw [mem_srcSet, rowOff_zero hv'] at hi'
  omega

/-- What row `b`'s copy writes is row `b` of `lastRows`. -/
theorem landed (X : S65536x1024.Idx → Elt F .f32) (Ln : S16.Idx → BitVec 32) (h : AllInTable Ln) (fo : S16x1024.Idx → Elt F .f32)
    (b : Fin 16) (i : S16x1024.Idx) (hi : i ∈ rowSet b) :
    (dst osM b).view.write (Elt F) fo ((src xsM b (word Ln b) (h b)).view.read (Elt F) X) Finset.univ i = lastRows X Ln h i := by
  obtain ⟨x, rfl⟩ := View.exists_of_mem_set_slice hi
  refine (View.write_emb_of_mem (v := (dst osM b).view) fo _ (Finset.mem_univ x)).trans ?_
  have hb : b = (dst osM b).view.emb x 0 := (mem_rowSet.mp hi).symm
  have hx : x = inRow ((dst osM b).view.emb x) := by
    funext a
    match a with
    | 0 => exact Subsingleton.elim (α := Fin 1) _ _
    | 1 => exact Fin.ext (by show (x 1).val = 0 + 1 * (x 1).val; omega)
  show X ((src xsM b (word Ln b) (h b)).view.emb x) = X (srcIdx Ln h ((dst osM b).view.emb x))
  refine congrArg X ?_
  have key : ∀ (i : S16x1024.Idx) (b : Fin 16) (hs : InTable b (word Ln b)), b = i 0 → (src xsM b (word Ln b) hs).view.emb (inRow i) = srcIdx Ln h i :=
    fun i b hs e => by cases e; rfl
  exact (congrArg _ hx).trans (key _ b (h b) hb)

end Cert.Proof.Rows

end
-- ==== Proof.Body.lean ====
/- The kernel's run on the sequencer, at any float values. It holds the table of rows, the lengths and the result, and the
   lengths are between 1 and 4096; it ends with the result at `lastRows`, everything else as it was and both semaphores back
   at zero. The row copies share one semaphore, so they are one batch: started in order, each starts with its row of the
   result and its row of the table, and when all sixteen waits are through every row is handed back at once. -/
module

public import proofs.«01_k».proof.Proof.Landing
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Batch

@[expose] public section

noncomputable section

namespace Cert.Proof.Rows

open Cert.KernelIdeal Cert.KernelIdeal.Gen
open Idealize.ShloMosaic
open Idealize.ShloMosaic.SparseCore (S V)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic

variable {F : FTy → Type}

/-- The algebra of the launch's handshakes, -/
abbrev UH : Type := URounds (GSem nD τ sig) ℕ
/-- and beside it that of the transfers' counters. -/
abbrev UU : Type := UH × Counters

local notation "𝕄" => MT nD τ sig (HIx 1) (Elt F) ℕ UU ℕ

/-- The program declares no loop variants of its own. -/
abbrev 𝒱₀ : Variants := Variants.none

/-- The places of the arrays on device `d`: the argument's, -/
abbrev xLoc (d : Dev nD) : Loc nD τ sig := (SparseCore.T d).loc main_arg0
/-- the table's of its rows, -/
abbrev xsLoc (d : Dev nD) : Loc nD τ sig := (SparseCore.T d).loc main_v0
/-- the lengths', -/
abbrev lsLoc (d : Dev nD) : Loc nD τ sig := (SparseCore.T d).loc main_arg1
/-- and the result's. -/
abbrev osLoc (d : Dev nD) : Loc nD τ sig := (SparseCore.T d).loc main_v1

section Run

variable [FloatOps F] (d : Dev nD) (i : grid0.Coords)

/-- The sequencer that runs the kernel, -/
abbrev seq : Thread nD τ := S d ((i 0).castLE hcore0)
/-- its copy of the lengths, -/
abbrev lnLoc : Loc nD τ sig := (seq d i).loc cc0_scratch0
/-- the semaphore of the row copies, -/
abbrev rowCell : GSem nD τ sig := (seq d i, .dma cc0_scratch1.sem)
/-- that of the copy of the lengths. -/
abbrev lenCell : GSem nD τ sig := (seq d i, .dma cc0_scoped0.sem)

/-- What a row's copy counts on its semaphore; the same for every row. -/
abbrev rowCredit : ℕ := (dst osM 0).view.dmaCredit

variable (X : Buf (Elt F) (xsLoc d)) (Ln : Buf (Elt F) (lsLoc d)) (hL : InRange Ln) (fo : Buf (Elt F) (osLoc d))

/-- What row `b`'s copy starts with: its row of the table and its row of the result. -/
def before (b : Fin 16) : sProp 𝕄 :=
  iprop((xsLoc d ↦[srcSet b (word Ln b) (inTable_of_range (hL b))]{fullShare} X) ∗ (osLoc d ↦[rowSet b]{fullShare} fo))

/-- What it hands back: the row of the result at what it is to hold, and the row of the table. -/
def after (b : Fin 16) : sProp 𝕄 :=
  iprop((osLoc d ↦[rowSet b]{fullShare} (lastRows X Ln fun b => inTable_of_range (hL b)))
    ∗ (xsLoc d ↦[srcSet b (word Ln b) (inTable_of_range (hL b))]{fullShare} X))

/-- What a copy hands back can be kept while the copy is in flight. -/
instance after_storable (b : Fin 16) : BI.Storable (upEmb : UEmb _ 𝕄) (after d X Ln hL b) := by unfold after; infer_instance

/-- The sixteen row copies, `k` of them started and `u` counts waited for. -/
abbrev copies (k u : ℕ) : sProp 𝕄 := Batch (countersEmb (U := UU)) (seq d i) (.dma cc0_scratch1.sem) (none : HIx 1) rowCredit (after d X Ln hL) k u

variable (O : CellTallies nD τ sig (HIx 1)) (W : Waits sig (HIx 1))

/-- The waits for the rows of `ps`, all sixteen copies started: they use up `ps.length` rows' counts, the last
    that there are, and every row is handed back. -/
theorem wp_waits (R : sProp 𝕄) (ps : List Started) (u : ℕ) (hu : u + ps.length * rowCredit = rowCredit * 16) :
    iprop(R ∗ MayWaits (seq d i) (none : HIx 1) O ∗ copies d i X Ln hL 16 u
        ∗ ∃ W', ⌜∀ p ∈ W', p ∈ W ∨ p.2 = none⌝ ∗ owes (seq d i) O W')
      ⊢ wp frame (wpE (defs₀ (F := F)) 𝒱₀ (seq d i) none) Set.univ (waits xsM osM cc0_scratch1.sem ps)
          fun _ => iprop(R ∗ bigSep Finset.univ (after d X Ln hL) ∗ semVal (rowCell d i) 0 ∗ ∃ W', ⌜∀ p ∈ W', p ∈ W ∨ p.2 = none⌝ ∗ owes (seq d i) O W') := by
  induction ps generalizing u with
  | nil =>
    rw [List.length_nil, Nat.zero_mul, Nat.add_zero] at hu
    subst hu
    unfold waits
    rw [wp_ret]
    iintro ⟨HR, -, HB, HO⟩
    imod (batch_collect' (countersEmb (U := UU)) (seq d i) (View.dmaCredit_pos _ (by decide))) $$ HB with ⟨HD, Hv⟩
    imodintro
    isplitl [HR]; · iexact HR
    isplitl [HD]; · iexact HD
    isplitl [Hv] <;> iassumption
  | cons p ps ih =>
    rw [List.length_cons, Nat.succ_mul] at hu
    unfold waits
    iintro ⟨HR, #Hmw, HB, %W', %hW', HO⟩
    ihave Hm := (MayWaits.elim (.dma cc0_scratch1.sem)) $$ Hmw
    iapply (wp_waitBatchMulO (countersEmb (U := UU)) 𝒱₀ (seq d i) none (none : HIx 1) 1
      (show (dst osM p.1).view.dmaCredit = 1 * rowCredit from (Nat.one_mul _).symm)
      (D := after d X Ln hL) (j := 16) (u := u) (by omega)) $$ [HB HO Hm]
    · isplitl [HB]; · iexact HB
      isplitl [HO] <;> iassumption
    iintro ⟨HB, HO⟩
    iapply (ih (u + 1 * rowCredit) (by omega))
    isplitl [HR]; · iexact HR
    isplitr; · iexact Hmw
    isplitl [HB]; · iexact HB
    iexists _
    isplitr
    rotate_left
    · iexact HO
    ipureintro; intro q hq
    exact (Finset.mem_insert.mp hq).elim (fun e => .inr (e ▸ rfl)) (hW' q)

/-- The rows from `j` on, the `j` before them started: each is started with what it starts with, then all are waited for. -/
theorem wp_rows (j : ℕ) (hj : j ≤ 16) (ps : List Started) (hps : ps.length = j) :
    iprop((lnLoc d i ↦{fullShare} Ln) ∗ MayWaits (seq d i) (none : HIx 1) O ∗ bigSep (pending j) (before d X Ln hL fo) ∗ copies d i X Ln hL j 0
        ∗ ∃ W', ⌜∀ p ∈ W', p ∈ W ∨ p.2 = none⌝ ∗ owes (seq d i) O W')
      ⊢ wp frame (wpE (defs₀ (F := F)) 𝒱₀ (seq d i) none) Set.univ (rows xsM osM lnM cc0_scratch1.sem ((List.finRange 16).drop j) ps)
          fun _ => iprop((lnLoc d i ↦{fullShare} Ln) ∗ bigSep Finset.univ (after d X Ln hL) ∗ semVal (rowCell d i) 0
            ∗ ∃ W', ⌜∀ p ∈ W', p ∈ W ∨ p.2 = none⌝ ∗ owes (seq d i) O W') := by
  induction hk : 16 - j generalizing j ps with
  | zero =>
    obtain rfl : j = 16 := by omega
    rw [show (List.finRange 16).drop 16 = [] from rfl]
    unfold rows
    iintro ⟨HL, #Hmw, -, HB, HO⟩
    iapply (wp_waits d i X Ln hL O W _ ps 0 (by rw [hps, Nat.zero_add, Nat.mul_comm]))
    isplitl [HL]; · iexact HL
    isplitr; · iexact Hmw
    isplitl [HB] <;> iassumption
  | succ k ih =>
    have hj' : j < 16 := by omega
    rw [List.drop_eq_getElem_cons (by rw [List.length_finRange]; exact hj'), List.getElem_finRange]
    unfold rows
    rw [bigSep_pending_step _ j hj']
    iintro ⟨HL, #Hmw, ⟨Hj, Hrest⟩, HB, HO⟩
    iapply (wp_smemLoadElt 𝒱₀ (seq d i) none Set.univ (m := lnM) (r := wordRect ⟨j, hj'⟩) (S := Finset.univ) (f := Ln) (q := fullShare) (Finset.subset_univ _)) $$ HL
    iintro HL
    have hI : InTable ⟨j, hj'⟩ (word Ln ⟨j, hj'⟩) := inTable_of_range (hL ⟨j, hj'⟩)
    iapply (wp_assume 𝒱₀ (seq d i) none Set.univ (chk_of_inTable ⟨j, hj'⟩ (word Ln ⟨j, hj'⟩) hI))
    unfold before
    icases Hj with ⟨Hs, Ho⟩
    iapply (wp_dmaBatch (countersEmb (U := UU)) 𝒱₀ (seq d i) none (src := src xsM ⟨j, hj'⟩ (word Ln ⟨j, hj'⟩) hI) (dst := dst osM ⟨j, hj'⟩)
      (D := after d X Ln hL) (j := j) (u := 0) (fs := X) (fd := fo)
      (Sd := rowSet ⟨j, hj'⟩) (q := fullShare) none rowCredit rfl (Finset.Subset.refl _) hj' (Nat.zero_le _) ?_) $$ [Hs Ho HB]
    · unfold after
      iintro ⟨Ho, Hs⟩
      isplitl [Ho]
      · iapply (Entails.of_eq (pointsTo_congr fun x hx => landed X Ln (fun b => inTable_of_range (hL b)) fo ⟨j, hj'⟩ x hx)); iexact Ho
      iexact Hs
    · isplitl [Hs]; · iexact Hs
      isplitl [Ho]; · iexact Ho
      iexact HB
    iintro HB
    iapply (ih (j + 1) hj' _ (by rw [List.length_append, hps]; rfl) (by omega))
    isplitl [HL]; · iexact HL
    isplitr; · iexact Hmw
    isplitl [Hrest]; · iexact Hrest
    isplitl [HB] <;> iassumption

/-- The elements of the table that some row copy reads. -/
def readSet (Ln : S16.Idx → BitVec 32) (hL : InRange Ln) : Finset S65536x1024.Idx :=
  Finset.univ.biUnion fun b : Fin 16 => srcSet b (word Ln b) (inTable_of_range (hL b))

/-- The result in sixteen rows. -/
theorem split_result (f : Buf (Elt F) (osLoc d)) :
    (osLoc d ↦{fullShare} f : sProp 𝕄) = bigSep Finset.univ fun b : Fin 16 => osLoc d ↦[rowSet b]{fullShare} f := by
  rw [← pointsTo_biUnion (ℓ := osLoc d) Finset.univ rowSet fun _ _ _ _ h => rowSet_disjoint h]
  exact congrArg (fun I => (osLoc d ↦[I]{fullShare} f : sProp 𝕄)) rowSet_univ.symm

/-- The table's elements that are read, in sixteen rows. -/
theorem split_read : (xsLoc d ↦[readSet Ln hL]{fullShare} X : sProp 𝕄)
    = bigSep Finset.univ fun b : Fin 16 => xsLoc d ↦[srcSet b (word Ln b) (inTable_of_range (hL b))]{fullShare} X :=
  pointsTo_biUnion (ℓ := xsLoc d) Finset.univ (fun b : Fin 16 => srcSet b (word Ln b) (inTable_of_range (hL b)))
    fun b _ b' _ h => srcSet_disjoint (hL b) (hL b') h

/-- What the sixteen copies start with together is the table's elements that are read, and the result. -/
theorem before_all : bigSep Finset.univ (before d X Ln hL fo)
    = (iprop((xsLoc d ↦[readSet Ln hL]{fullShare} X) ∗ (osLoc d ↦{fullShare} fo)) : sProp 𝕄) := by
  rw [split_read, split_result]
  exact BI.bigSep_sep _ _ _

/-- What they hand back together is the result at `lastRows`, and those elements of the table. -/
theorem after_all : bigSep Finset.univ (after d X Ln hL)
    = (iprop((osLoc d ↦{fullShare} (lastRows X Ln fun b => inTable_of_range (hL b))) ∗ (xsLoc d ↦[readSet Ln hL]{fullShare} X)) : sProp 𝕄) := by
  rw [split_read, split_result]
  exact BI.bigSep_sep _ _ _

/-- The lengths as the sequencer's copy names them are the lengths. -/
theorem len_pts : (lsLoc d ↦{fullShare} Ln : sProp 𝕄) = lsM.view.loc (seq d i) ↦[lsM.view.set]{fullShare} Ln :=
  congrArg (fun I => (lsLoc d ↦[I]{fullShare} Ln : sProp 𝕄)) (View.set_whole main_arg1_scs).symm

/-- The kernel: the lengths are copied into scalar memory and waited for, then every row is started and waited for. The
    result ends at `lastRows`, the table and the lengths as they were, both semaphores at zero. -/
theorem wp_kernel (fl : Buf (Elt F) (lnLoc d i)) :
    iprop((MayWaits (seq d i) (none : HIx 1) O : sProp 𝕄) ∗ (xsLoc d ↦{fullShare} X) ∗ (lsLoc d ↦{fullShare} Ln) ∗ (osLoc d ↦{fullShare} fo)
        ∗ (lnLoc d i ↦{fullShare} fl) ∗ semVal (rowCell d i) 0 ∗ semVal (lenCell d i) 0 ∗ owes (seq d i) O W)
      ⊢ wp frame (wpE (defs₀ (F := F)) 𝒱₀ (seq d i) none) Set.univ
          (cc0_k i xsM (Memref.isWhole_whole _) lsM (Memref.isWhole_whole _) osM (Memref.isWhole_whole _) lnM (Memref.isWhole_whole _)
            cc0_scratch1 cc0_scoped0)
          fun _ => iprop((xsLoc d ↦{fullShare} X) ∗ (lsLoc d ↦{fullShare} Ln)
            ∗ (osLoc d ↦{fullShare} (lastRows X Ln fun b => inTable_of_range (hL b)))
            ∗ (∃ f, lnLoc d i ↦{fullShare} f) ∗ semVal (rowCell d i) 0 ∗ semVal (lenCell d i) 0
            ∗ ∃ W', ⌜∀ p ∈ W', p ∈ W ∨ p.2 = none⌝ ∗ owes (seq d i) O W') := by
  rw [kernel_eq]
  iintro ⟨#Hmw, Hx, Hl, Ho, Hs, Hrow, Hlen, HO⟩
  -- the lengths
  iapply (wp_dmaLocal (countersEmb (U := UU)) 𝒱₀ (seq d i) none (src := lsM) (dst := lnM) (fs := Ln) (fd := fl) (q := fullShare) (Sd := Finset.univ)
    (none : HIx 1) lnM.view.dmaCredit rfl (View.dmaCredit_pos _ (by decide)) (Finset.subset_univ _)) $$ [Hl Hs Hlen]
  · isplitl [Hl]
    · iapply (Entails.of_eq (len_pts (F := F) d i Ln)); iexact Hl
    isplitl [Hs]; · iexact Hs
    iexact Hlen
  iintro HF
  ihave Hm := (MayWaits.elim (.dma cc0_scoped0.sem)) $$ Hmw
  iapply (wp_waitLocalO (countersEmb (U := UU)) 𝒱₀ (seq d i) none (srcw := lsM) (dstw := lnM) (none : HIx 1) rfl) $$ [HF HO Hm]
  · isplitl [HF]; · iexact HF
    isplitl [HO] <;> iassumption
  iintro ⟨⟨Hs, Hl⟩, Hlen, HO⟩
  -- the rows
  imod (batch_alloc' (countersEmb (U := UU)) (seq d i) (none : HIx 1) rowCredit (after d X Ln hL) (E := Set.univ)) $$ Hrow with HB
  ihave Hx' := (pointsTo_split_subset (ℓ := xsLoc d) (f := X) (q := fullShare) (Finset.subset_univ (readSet Ln hL))).1 $$ Hx
  icases Hx' with ⟨Hx, Hxr⟩
  iapply (wp_wand_r Idealize.ShloMosaic.frame (wpE (defs₀ (F := F)) 𝒱₀ (seq d i) none) Set.univ)
  isplitl [Hx Ho HB Hs HO]
  · iapply (wp_rows d i X Ln hL fo O W 0 (by omega) [] rfl)
    isplitl [Hs]
    · iapply (Entails.of_eq (congrArg (fun f => (lnLoc d i ↦{fullShare} f : sProp 𝕄)) (View.write_whole_univ cc0_scratch0 fl Ln))); iexact Hs
    isplitr; · iexact Hmw
    isplitl [Hx Ho]
    · iapply (Entails.of_eq ((before_all d X Ln hL fo).symm.trans (bigSep_pending_zero _)))
      isplitl [Hx] <;> iassumption
    isplitl [HB]; · iexact HB
    iexists _
    isplitr
    rotate_left
    · iexact HO
    ipureintro; intro q hq
    exact (Finset.mem_insert.mp hq).elim (fun e => .inr (e ▸ rfl)) .inl
  iintro %_ ⟨Hs, Hd, Hrow, HO⟩
  ihave Hd' := (Entails.of_eq (after_all d X Ln hL)) $$ Hd
  icases Hd' with ⟨Ho, Hx⟩
  isplitl [Hx Hxr]
  · iapply (pointsTo_split_subset (ℓ := xsLoc d) (f := X) (q := fullShare) (Finset.subset_univ (readSet Ln hL))).2
    isplitl [Hx] <;> iassumption
  isplitl [Hl]
  · iapply (Entails.of_eq (len_pts (F := F) d i Ln).symm); iexact Hl
  isplitl [Ho]; · iexact Ho
  isplitl [Hs]; · iexists _; iexact Hs
  isplitl [Hrow]; · iexact Hrow
  isplitl [Hlen] <;> iassumption

end Run

end Cert.Proof.Rows

end
-- ==== Proof.Launch.lean ====
/- The program's run, at any float values: the table of rows is made from `x`, the call hands it to the sequencer with the
   lengths and the result, and every run ends with the result at `lastRows`, both arguments as they were and every
   semaphore at zero. -/
module

public import proofs.«01_k».proof.Proof.Body

@[expose] public section

noncomputable section

namespace Cert.Proof.Rows

open Cert.KernelIdeal Cert.KernelIdeal.Gen
open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.StableHlo (held wp_hlo_within)
open Idealize.ShloMosaic.Tactic

variable {F : FTy → Type}

local notation "𝕄" => MT nD τ sig (HIx 1) (Elt F) ℕ UU ℕ

/-! ## The program as the launch sees it -/

/-- The labels of the program's calls, -/
abbrev ΛP : Labels := Pipeline.Sig Λ₀ (Fin 0) fun p => (pcfgs (F := F) p).Adm
/-- its SparseCore kernel, -/
abbrev K : SparseCore.Cfg τ sig (ΛP (F := F)) 1 := sc (F := F)
/-- its definitions, -/
abbrev D [FloatOps F] : Defs nD τ sig (Elt F) (ΛP (F := F)) := Pipeline.defs pcfgs defs₀
/-- its loop variants, -/
abbrev 𝒱 : Variants := 𝒱₀.lift
/-- and the variant that the launch starts at. -/
abbrev v₀ : 𝒱.V := Sum.inl none

/-- The launch's semaphores are four, none of them a kernel's own, and no buffer is shared between a task and its sequencer. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' part of the algebra. -/
abbrev EH : Emb UH (MT nD τ sig (HIx 1) (Elt F) ℕ UU ℕ) := embL

variable [FloatOps F]
variable (m : (ℓ : Loc nD τ sig) → Buf (Elt F) ℓ) (ρ : Dev nD → PrngReg)

/-! ## What the call takes and gives back -/

/-- The program's arrays by name: the argument, -/
abbrev x' : DevRef τ sig := Proc.devRef .tc (main_arg0 : Ref sig .tc)
/-- the lengths, -/
abbrev ls' : DevRef τ sig := Proc.devRef .tc (main_arg1 : Ref sig .tc)
/-- the table of the argument's rows, -/
abbrev xs' : DevRef τ sig := Proc.devRef .tc (main_v0 : Ref sig .tc)
/-- and the result. -/
abbrev os' : DevRef τ sig := Proc.devRef .tc (main_v1 : Ref sig .tc)

/-- The arrays at the launch. -/
def start (d : Dev nD) : Valuation τ sig (Elt F) := fun b => m (d, b)
/-- The host's reshape of the argument to the table of its rows. -/
abbrev opTable : HloOp τ sig (Elt F) := StableHlo.reshape main_arg0 main_v0 rfl shapeCasts_S16x4096x1024_S65536x1024
/-- The arrays once the table is made. -/
def tabled (d : Dev nD) : Valuation τ sig (Elt F) := (opTable (F := F)).result (start m d)

/-- The table of rows. -/
def table (d : Dev nD) : Buf (Elt F) (xsLoc d) := tabled m d xs'

/-- The lengths that the launch finds are in range. -/
abbrev LengthsOk : Prop := ∀ d, InRange (m (lsLoc d))

variable (hL : LengthsOk m)

/-- The result that the program leaves on device `d`. -/
def final (d : Dev nD) : Buf (Elt F) (osLoc d) := lastRows (table m d) (m (lsLoc d)) fun b => inTable_of_range (hL d b)

/-- The table and the lengths. -/
abbrev inputs (d : Dev nD) : sProp 𝕄 := iprop((xsLoc d ↦{fullShare} table m d) ∗ (lsLoc d ↦{fullShare} m (lsLoc d)))

/-- The call's payloads: the inputs and the result, whatever it holds; back come the inputs and the result at `final`. -/
def P : (K (F := F)).Pay (nD := nD) (Val := Elt F) (Name := ℕ) (U := UU) where
  st := fun _ d _ => iprop(inputs m d ∗ ∃ f, osLoc d ↦{fullShare} f)
  dn := fun _ d _ => iprop(inputs m d ∗ osLoc d ↦{fullShare} final m hL d)
  go := fun _ _ _ _ => iprop(emp)
  td := fun _ _ _ _ => iprop(emp)
  x := fun _ _ => iprop(emp)

/-- The payloads can be kept while the call runs. -/
instance P_storable : (P (F := F) m hL).IsStorable where
  st _ _ _ := by unfold P; infer_instance
  dn _ _ _ := by unfold P; infer_instance
  go _ _ _ _ := by unfold P; infer_instance
  td _ _ _ _ := by unfold P; infer_instance

/-! ## The sequencer's body -/

section Body

variable (d : Dev nD) (i : grid0.Coords)

omit [FloatOps F] in
/-- The sequencer's own semaphores: the row copies', the lengths' and the others. -/
theorem own_sems : ∃ R : sProp 𝕄, (ownSems0 (seq d i) : sProp 𝕄) = iprop(semVal (rowCell d i) 0 ∗ semVal (lenCell d i) 0 ∗ R) := by
  refine ⟨bigSep (((ownCells (seq d i)).erase (rowCell d i)).erase (lenCell d i)) fun g => semVal g 0, ?_⟩
  have hr : rowCell d i ∈ ownCells (seq d i) :=
    mem_ownCells.mpr ⟨rfl, show (SemLoc.dma cc0_scratch1.sem : SemLoc sig).isScoped .scScalar = true by decide⟩
  have hl : lenCell d i ∈ (ownCells (seq d i)).erase (rowCell d i) :=
    Finset.mem_erase.mpr ⟨fun e => absurd (congrArg Prod.snd e) (show (SemLoc.dma cc0_scoped0.sem : SemLoc sig) ≠ .dma cc0_scratch1.sem by decide),
      mem_ownCells.mpr ⟨rfl, show (SemLoc.dma cc0_scoped0.sem : SemLoc sig).isScoped .scScalar = true by decide⟩⟩
  unfold SparseCore.Cfg.ownSems0
  rw [SparseCore.bigSep_erase' hr, SparseCore.bigSep_erase' hl]

omit [FloatOps F] in
/-- The sequencer's own buffers: its copy of the lengths and the others. -/
theorem own_bufs : ∃ R : sProp 𝕄, (ownBufs (seq d i) : sProp 𝕄) = iprop((∃ f, lnLoc d i ↦{fullShare} f) ∗ R) :=
  ⟨_, SparseCore.bigSep_erase' ((mem_ownRefs (b := (Proc.scScalar ((i 0).castLE hcore0)).devRef cc0_scratch0)).mpr rfl)⟩

/-- The kernel on the sequencer, from the call's payload to the call's payload, the sequencer's scoped buffers and
    semaphores given back as they were taken. -/
theorem body (O : CellTallies nD τ sig (HIx 1)) (W : Waits sig (HIx 1)) (hO : ∀ g, O g none = 0) :
    iprop(levAts (K (F := F)).L (K (F := F)).lev ∗ emp ∗ (inputs m d ∗ ∃ f, osLoc d ↦{fullShare} f)
        ∗ scopedBufs (seq d i) ∗ scopedSems0 (seq d i) ∗ owes (seq d i) O W)
      ⊢ wp frame (wpE (defs₀ (F := F)) 𝒱₀ (seq d i) none) Set.univ
          (cc0_k i xsM (Memref.isWhole_whole _) lsM (Memref.isWhole_whole _) osM (Memref.isWhole_whole _) lnM (Memref.isWhole_whole _)
            cc0_scratch1 cc0_scoped0)
          fun _ => iprop((inputs m d ∗ osLoc d ↦{fullShare} final m hL d) ∗ scopedBufs (seq d i) ∗ scopedSems0 (seq d i)
            ∗ ∃ W', ⌜∀ p ∈ W', p ∈ W ∨ p.2 = none ∨ p.2 = some (0 : Fin 1)⌝ ∗ owes (seq d i) O W') := by
  obtain ⟨Rs, hRs⟩ := own_sems (F := F) d i
  obtain ⟨Rb, hRb⟩ := own_bufs (F := F) d i
  rw [(K (F := F)).scopedBufs_S facts d _, SparseCore.Cfg.scopedSems0_S (Val := Elt F) d _, hRs, hRb]
  iintro ⟨#Hlv, -, ⟨⟨Hx, Hl⟩, %fo, Ho⟩, ⟨⟨⟨%fl, Hs⟩, Hb⟩, Hbs⟩, ⟨⟨Hrow, Hlen, Hc⟩, Hcs⟩, HO⟩
  ihave Hmw := ((K (F := F)).mayWaits_none (thr := seq d i) hO) $$ Hlv
  iapply (wp_wand_r Idealize.ShloMosaic.frame (wpE (defs₀ (F := F)) 𝒱₀ (seq d i) none) Set.univ)
  isplitl [Hmw Hx Hl Ho Hs Hrow Hlen HO]
  · iapply (wp_kernel d i (table m d) (m (lsLoc d)) (hL d) fo O W fl)
    isplitl [Hmw]; · iexact Hmw
    isplitl [Hx]; · iexact Hx
    isplitl [Hl]; · iexact Hl
    isplitl [Ho]; · iexact Ho
    isplitl [Hs]; · iexact Hs
    isplitl [Hrow]; · iexact Hrow
    isplitl [Hlen] <;> iassumption
  iintro %_ ⟨Hx, Hl, Ho, Hs, Hrow, Hlen, %W', %hW', HO⟩
  isplitl [Hx Hl Ho]
  · isplitl [Hx Hl]
    · isplitl [Hx] <;> iassumption
    iexact Ho
  isplitl [Hs Hb Hbs]
  · isplitl [Hs Hb]
    · isplitl [Hs] <;> iassumption
    iexact Hbs
  isplitl [Hrow Hlen Hc Hcs]
  · isplitl [Hrow Hlen Hc]
    · isplitl [Hrow]; · iexact Hrow
      isplitl [Hlen] <;> iassumption
    iexact Hcs
  iexists W'
  isplitr
  · ipureintro; exact fun p hp => (hW' p hp).imp_right .inl
  iexact HO

end Body

/-! ## The launch's obligation -/

/-- The grid's coordinates on SparseCore `c`. -/
def coords (c : Fin (grid0.bound 0)) : grid0.Coords := fun | 0 => c | ⟨_ + 1, h⟩ => absurd h (Nat.not_lt.2 (Nat.le_add_left _ _))

/-- On a sequencer of the kernel's grid the kernel's task is its body, at the program's arrays. -/
theorem defs₀_scalar (c : Fin τ.nSC) :
    defs₀ (F := F) (.scScalar c) 0 ()
      = SparseCore.onCore hcore0 (fun c => cc0_k (coords c) xsM (Memref.isWhole_whole _) lsM (Memref.isWhole_whole _) osM (Memref.isWhole_whole _)
          lnM (Memref.isWhole_whole _) cc0_scratch1 cc0_scoped0) ⟨⟩ c := rfl

/-- The sequencer's task turns the payload that it is given into the one that it gives back. -/
theorem scalarObl : (K (F := F)).ScalarObl (D (F := F)) 𝒱 (P m hL) v₀ 0 := by
  intro d c O W hO _ _
  simp only [show (P m hL).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact body m hL d (coords ⟨_, hc⟩) O W hO

/-! ## The launch's element -/

/-- The ghost state at the launch: the handshakes' start, no transfer counted. -/
def u₀ : UU := (initOf (K (F := F)).hsCells (K (F := F)).hsToks, 1)

omit [FloatOps F] in
/-- Nothing, for each of a set, is nothing. -/
theorem bigSep_emp {I : Type} (s : Finset I) : (bigSep s fun _ => iprop(emp)) = (iprop(emp) : sProp 𝕄) := bigSep_emp_const s

/-- From it the handshakes get their start; the devices and the threads need nothing more. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m hL).x q thr) := by
  unfold u₀
  iintro Hu
  ihave H := (ownU_pair _ _) $$ Hu
  icases H with ⟨HH, -⟩
  imodintro
  isplitl [HH]; · iexact HH
  rw [bigSep_emp, show (bigSep Finset.univ fun thr : Thread nD τ => bigSep Finset.univ fun q : Fin 1 => (P m hL).x q thr) = iprop(emp) from
    (bigSep_congr fun _ _ => bigSep_emp _).trans (bigSep_emp _)]
  isplitr <;> iempintro

/-! ## @main -/

/-- The program's arrays. -/
abbrev arrays : Finset (DevRef τ sig) := {x', ls', xs', os'}

omit [FloatOps F] in
/-- Holding the arrays is holding each of the four. -/
theorem held_arrays (d : Dev nD) (W : Valuation τ sig (Elt F)) :
    (held (SparseCore.T d) arrays W : sProp 𝕄)
      = iprop((xLoc d ↦{fullShare} W x') ∗ (lsLoc d ↦{fullShare} W ls') ∗ (xsLoc d ↦{fullShare} W xs') ∗ (osLoc d ↦{fullShare} W os')) := by
  unfold held arrays
  rw [SparseCore.bigSep_insert' (by decide), SparseCore.bigSep_insert' (by decide), SparseCore.bigSep_insert' (by decide), bigSep_singleton]

/-- The buffers that a device starts with are these four arrays. -/
theorem unscoped_held (d : Dev nD) : (unscopedBufs d (fun b => m ((SparseCore.T d).loc b)) : sProp 𝕄) = held (SparseCore.T d) arrays (start m d) := by
  rw [held_arrays]
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]
  rfl

/-- Making the table changes no array but the table. -/
theorem tabled_ne (d : Dev nD) {b : DevRef τ sig} (h : b ∉ ({xs'} : Finset (DevRef τ sig))) : tabled m d b = m (d, b) :=
  (opTable (F := F)).result_of_not_mem _ h

/-- The arrays once the table is made. -/
theorem held_tabled (d : Dev nD) : (held (SparseCore.T d) arrays ((opTable (F := F)).result (start m d)) : sProp 𝕄)
    = iprop((xLoc d ↦{fullShare} m (xLoc d)) ∗ (lsLoc d ↦{fullShare} m (lsLoc d)) ∗ (xsLoc d ↦{fullShare} table m d) ∗ (osLoc d ↦{fullShare} m (osLoc d))) := by
  show held (SparseCore.T d) arrays (tabled m d) = _
  rw [held_arrays, tabled_ne m d (b := x') (by decide), tabled_ne m d (b := ls') (by decide), tabled_ne m d (b := os') (by decide)]
  rfl

/-- The reshape touches no other array. -/
theorem hTable : (opTable (F := F)).bufs ⊆ arrays := show ({x', xs'} : Finset (DevRef τ sig)) ⊆ arrays by decide

/-- The one core takes the whole of the call's inputs and result, -/
theorem st_eq (d : Dev nD) : (bigSep Finset.univ fun c : Fin ((K (F := F)).nCore 0) => (P m hL).st 0 d c) = iprop(inputs m d ∗ ∃ f, osLoc d ↦{fullShare} f) :=
  bigSep_univ_of_subsingleton (0 : Fin 1)
/-- and gives the whole back. -/
theorem dn_eq (d : Dev nD) : (bigSep Finset.univ fun c : Fin ((K (F := F)).nCore 0) => (P m hL).dn 0 d c) = iprop(inputs m d ∗ osLoc d ↦{fullShare} final m hL d) :=
  bigSep_univ_of_subsingleton (0 : Fin 1)

/-- What @main leaves: both arguments as they were, the result at `final`. -/
abbrev FIN (d : Dev nD) : sProp 𝕄 :=
  iprop((xLoc d ↦{fullShare} m (xLoc d)) ∗ (lsLoc d ↦{fullShare} m (lsLoc d)) ∗ (osLoc d ↦{fullShare} final m hL d))

/-- @main makes the table, runs the call, and ends with the arguments as they were and the result at `final`. -/
theorem hmain (κ : GSem nD τ sig → ℕ) (d : Dev nD) :
    iprop((K (F := F)).ctx EH (P m hL) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m hL d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opTable) (S := arrays) hTable (V := start m d)) $$ [Hb Hheld]
  · isplitl [Hb] <;> iassumption
  iintro ⟨Hb, Hheld⟩
  rw [wp_ret]; imodintro
  ihave Hh := (Entails.of_eq (held_tabled (F := F) m d)) $$ Hheld
  icases Hh with ⟨Hx, Hl, Hxs, Ho⟩
  iapply ((K (F := F)).wp_run (D (F := F)) 𝒱 (EH := EH) (P := P m hL) κ d 0) $$ [Hst Hx Hl Hxs Ho Hb Hts]
  isplitr; · iexact Hctx
  isplitl [Hst]; · iexact Hst
  isplitl [Hl Hxs Ho]
  · rw [st_eq]
    isplitl [Hl Hxs]
    · isplitl [Hxs] <;> iassumption
    iexists _; iexact Ho
  iintro ⟨Hst, Hdn⟩
  ihave Hdn' := (Entails.of_eq (dn_eq m hL d)) $$ Hdn
  icases Hdn' with ⟨⟨-, Hl⟩, Ho⟩
  imodintro
  isplitl [Hst]; · iexact Hst
  isplitl [Hx Hl Ho]
  · isplitl [Hx]; · iexact Hx
    isplitl [Hl] <;> iassumption
  isplitl [Hb] <;> iassumption

/-- What the claims read of device `d`'s last state. -/
def fq (d : Dev nD) (s' : Phys nD τ sig (Elt F)) : Prop :=
  s'.mem.mem (xLoc d) = m (xLoc d) ∧ s'.mem.mem (lsLoc d) = m (lsLoc d) ∧ s'.mem.mem (osLoc d) = final m hL d

/-- An array held whole is what the last state holds; it stays held. -/
theorem read_whole {ℓ : Loc nD τ sig} {f : Buf (Elt F) ℓ} {s' : Phys nD τ sig (Elt F)} :
    (iprop(SI s' ∗ (ℓ ↦{fullShare} f)) : sProp 𝕄) ⊢ iprop(⌜s'.mem.mem ℓ = f⌝ ∗ SI s') := by
  iintro H
  ihave H' := (persistent_entails_right (SI_pointsTo_agree (st := s') (ℓ := ℓ) (I := Finset.univ) (q := fullShare) (f := f))) $$ H
  icases H' with ⟨%h, HSI, -⟩
  isplitr
  · ipureintro; exact funext fun j => h j (Finset.mem_univ j)
  iexact HSI

/-- What @main leaves held is what the last state holds. -/
theorem hfin (d : Dev nD) (s' : Phys nD τ sig (Elt F)) : iprop(FIN m hL d ∗ SI s') ⊢ (⌜fq m hL d s'⌝ : sProp 𝕄) := by
  iintro ⟨⟨Hx, Hl, Ho⟩, HSI⟩
  ihave H := (read_whole (F := F)) $$ [HSI Hx]
  · isplitl [HSI] <;> iassumption
  icases H with ⟨%hx, HSI⟩
  ihave H := (read_whole (F := F)) $$ [HSI Hl]
  · isplitl [HSI] <;> iassumption
  icases H with ⟨%hl, HSI⟩
  ihave H := (read_whole (F := F)) $$ [HSI Ho]
  · isplitl [HSI] <;> iassumption
  icases H with ⟨%ho, -⟩
  ipureintro; exact ⟨hx, hl, ho⟩

/-- How every run of the program ends: the arguments as they were, the result at `final`, the semaphores at zero. -/
def Ends : PUnit × MemSt nD τ sig (Elt F) → Prop := fun r =>
  (∀ c : Dev nD, r.2.mem (xLoc c) = m (xLoc c) ∧ r.2.mem (lsLoc c) = m (lsLoc c) ∧ r.2.mem (osLoc c) = final m hL c) ∧ r.2.sem = fun _ => 0

/-- Every run of the program, for any float values and lengths in range, ends as `Ends` says. -/
theorem run_main [∀ e, Nonempty (Elt F e)] : θ_run (Cert.KernelIdeal.defs (F := F)) (Cert.KernelIdeal.threads (F := F)) ⟨m, fun _ => 0, ρ⟩ (Ends m hL) :=
  SparseCore.Cfg.θ_run_sc_quiescent (K := K (F := F)) (D := D (F := F)) (𝒱 := 𝒱) (EH := EH) (P := P m hL) (A := ∅) facts v₀
    (fun q _ => match q with | 0 => scalarObl m hL)
    (fun q hq => match q with | 0 => nomatch hq)
    (fun q hq => match q with | 0 => nomatch hq)
    m ρ main (fun _ => iprop(emp)) (FIN m hL) (u₀ (F := F)) (sep_elim_left.trans (hu₀ m hL)) (hmain m ρ hL) (fq m hL) (hfin m hL) (Ends m hL)
    (fun _ h hz => ⟨h, hz⟩)

end Cert.Proof.Rows

end
-- ==== Proof.Value.lean ====
/- The value of the result. A launch whose lengths satisfy the precondition leaves, at row `b` and column `j`, the element
   `(b, length b - 1, j)` of the argument; and the reference's gather reads the same element. -/
module

public import proofs.«01_k».proof.Defs
public import proofs.«01_k».proof.Proof.Launch
public import proofs.«01_k».proof.Proof.Gen.Pre_lengths_in_range
public import proofs.«01_k».proof.Proof.Gen.Reference.Run
public import Idealize.ShloMosaic.Lib.ReduceAll
public import Idealize.ShloMosaic.Lib.WordCmp
public import Idealize.ShloMosaic.Lib.Pipeline.Value

@[expose] public section

noncomputable section

namespace Cert.Proof.Rows

open Cert.KernelIdeal Cert.KernelIdeal.Gen
open Idealize.ShloMosaic Idealize.ShloMosaic.WordCmp

variable {F : FTy → Type} [FloatOps F]

/-! ## The precondition -/

/-- A word that compares, as a signed number, at least 1 and at most 4096 is a number from 1 to 4096. -/
theorem toNat_range {v : BitVec 32} (h1 : (1#32).toInt ≤ v.toInt) (h2 : v.toInt ≤ (4096#32).toInt) : 1 ≤ v.toNat ∧ v.toNat ≤ 4096 := by
  have e1 : (1#32 : BitVec 32).toInt = 1 := by decide
  have e2 : (4096#32 : BitVec 32).toInt = 4096 := by decide
  rw [e1] at h1
  rw [e2] at h2
  have hv := v.isLt
  rw [BitVec.toInt_eq_toNat_cond] at h1 h2
  split at h1 <;> omega

/-- Where the precondition is true, every length is from 1 to 4096. -/
theorem inRange_of_pre {x : FVec F S16x4096x1024 .f32} {Ln : IVec S16 32} (h : Cert.Pre_lengths_in_range.fn (F := F) x Ln = fun _ => 1#1) :
    InRange Ln := by
  intro b
  rw [word_eq Ln (fun | 0 => b)]
  haveI : Subsingleton Cert.Pre_lengths_in_range.S_.Idx := ⟨fun _ _ => funext fun a => a.elim0⟩
  have hb := Host.reduce_andi_all _ _ _ _ (fun a => a.elim0) (congrFun h _) (fun | 0 => b)
  obtain ⟨hge, hle⟩ := IntOp.andi_eq_one.mp hb
  exact toNat_range (IntOp.cmpi_sge.mp hge) (IntOp.cmpi_sle.mp hle)

/-! ## The element read -/

/-- The argument's element that the result's element `i` is: row `length - 1` of the batch entry `i 0`. -/
def pick (Ln : S16.Idx → BitVec 32) (h : InRange Ln) (i : S16x1024.Idx) : S16x4096x1024.Idx := fun
  | 0 => i 0
  | 1 => ⟨(word Ln (i 0)).toNat - 1, by have := h (i 0); show _ < 4096; omega⟩
  | 2 => i 1

/-- What the program leaves is the argument at the elements picked. -/
theorem final_eq (m : (ℓ : Loc nD τ sig) → Buf (Elt F) ℓ) (hL : LengthsOk m) (d : Dev nD) (i : S16x1024.Idx) :
    final m hL d i = m (xLoc d) (pick (m (lsLoc d)) (hL d) i) := by
  have ht : table m d = fun j => shapeCast S65536x1024 (m (xLoc d)) shapeCasts_S16x4096x1024_S65536x1024 j := by
    show (opTable (F := F)).result (start m d) (Proc.devRef .tc main_v0) = _
    rw [StableHlo.reshape_result]
    rfl
  refine (congrFun ht _).trans (shapeCast_apply _ _ _ _ ?_)
  refine (Shape.rowMajor_val_three (d := ![16, 4096, 1024]) _).trans (Eq.trans ?_ (Shape.rowMajor_val_two (d := ![65536, 1024]) _).symm)
  have e0 : ((srcIdx (m (lsLoc d)) (fun b => inTable_of_range (hL d b)) i) 0).val = 4096 * (i 0).val + ((word (m (lsLoc d)) (i 0)).toNat - 1) := by
    refine Eq.trans ?_ (rowOff_zero (hL d (i 0)))
    show rowOff (i 0) (word (m (lsLoc d)) (i 0)) 0 + 1 * 0 = _
    rw [Nat.mul_zero, Nat.add_zero]
  have e1 : ((srcIdx (m (lsLoc d)) (fun b => inTable_of_range (hL d b)) i) 1).val = (i 1).val := by
    show 0 + 1 * (i 1).val = _
    omega
  rw [e0, e1]
  show ((i 0).val * 4096 + ((word (m (lsLoc d)) (i 0)).toNat - 1)) * 1024 + (i 1).val = _ * 1024 + _
  rw [Nat.mul_comm (i 0).val 4096]

/-! ## The reference -/

/-- The batch numbers that the reference indexes with: `0 … 15`, of which none is negative. -/
def batches : IVec S16 32 :=
  select (cmpi .slt (iotaInDim S16 32 0) (broadcastInDim S16 ![] Cert.Reference.Gen.bcast_S_S16 (constantI Cert.Reference.S_ 32 0#32)))
    (addi (iotaInDim S16 32 0) (broadcastInDim S16 ![] Cert.Reference.Gen.bcast_S_S16 (constantI Cert.Reference.S_ 32 16#32))) (iotaInDim S16 32 0)

/-- The positions that it indexes with: each length less one, and 4096 more where that is negative. -/
def places (Ln : IVec S16 32) : IVec S16 32 :=
  select (cmpi .slt (subi Ln (broadcastInDim S16 ![] Cert.Reference.Gen.bcast_S_S16 (constantI Cert.Reference.S_ 32 1#32)))
      (broadcastInDim S16 ![] Cert.Reference.Gen.bcast_S_S16 (constantI Cert.Reference.S_ 32 0#32)))
    (addi (subi Ln (broadcastInDim S16 ![] Cert.Reference.Gen.bcast_S_S16 (constantI Cert.Reference.S_ 32 1#32)))
      (broadcastInDim S16 ![] Cert.Reference.Gen.bcast_S_S16 (constantI Cert.Reference.S_ 32 4096#32)))
    (subi Ln (broadcastInDim S16 ![] Cert.Reference.Gen.bcast_S_S16 (constantI Cert.Reference.S_ 32 1#32)))

/-- The pairs of a batch number and a position that its gather reads at. -/
def pairs (Ln : IVec S16 32) : IVec Cert.Reference.S16x2 32 :=
  concatenate Cert.Reference.S16x2 1
    [⟨Cert.Reference.S16x1, broadcastInDim Cert.Reference.S16x1 ![0] Cert.Reference.Gen.bcast_S16_S16x1_0 batches⟩,
      ⟨Cert.Reference.S16x1, broadcastInDim Cert.Reference.S16x1 ![0] Cert.Reference.Gen.bcast_S16_S16x1_0 (places Ln)⟩]
    Cert.Reference.Gen.concatenates_S16x1_S16x1_S16x2_d1

/-- A choice between `y` and `x` by whether the word `x` is negative takes `x` where it is below 2³¹. -/
theorem select_nonneg {x y : BitVec 32} (h : x.toNat < 2 ^ 31) : Scalar.select (IntOp.cmpi .slt x 0#32) y x = x := by
  rw [cmpi_slt_of_lt h (by decide), select_decide, if_neg (show ¬ x.toNat < (0#32).toNat from Nat.not_lt_zero _)]

/-- Batch number `b` is `b`. -/
theorem batches_apply (i : S16.Idx) : (batches i).toInt.toNat = (i 0).val := by
  have hi := (i 0).isLt
  change _ < 16 at hi
  have hn : (BitVec.ofNat 32 (i 0).val).toNat = (i 0).val := by rw [BitVec.toNat_ofNat]; omega
  have e : batches i = BitVec.ofNat 32 (i 0).val := select_nonneg (x := BitVec.ofNat 32 (i 0).val) (by omega)
  rw [e, toInt_eq_toNat_of_lt_half (by omega), hn]
  rfl

/-- A length in range less one is its position. -/
theorem places_apply {Ln : IVec S16 32} (h : InRange Ln) (i : S16.Idx) : (places Ln i).toInt.toNat = (word Ln (i 0)).toNat - 1 := by
  have hi := h (i 0)
  rw [word_eq] at hi ⊢
  have hn : (Ln i - 1#32).toNat = (Ln i).toNat - 1 := by rw [BitVec.toNat_sub, BitVec.toNat_ofNat]; omega
  have e : places Ln i = Ln i - 1#32 := select_nonneg (x := Ln i - 1#32) (by rw [hn]; omega)
  rw [e, toInt_eq_toNat_of_lt_half (by omega), hn]
  rfl

/-- An index of the pairs: the `c`-th number of pair `b`. -/
def pairIdx (b : Fin 16) (c : Fin 2) : Cert.Reference.S16x2.Idx := fun | 0 => b | 1 => c

/-- The index of row `b` of a column. -/
def firstOf (b : Fin 16) : Cert.Reference.S16x1.Idx := fun | 0 => b | 1 => ⟨0, Nat.one_pos⟩

/-- A column's entry in row `b` is the vector's entry `b`. -/
theorem column_apply (v : IVec S16 32) (b : Fin 16) :
    broadcastInDim Cert.Reference.S16x1 ![0] Cert.Reference.Gen.bcast_S16_S16x1_0 v (firstOf b) = v (fun | 0 => b) :=
  broadcastInDim_apply _ _ _ _ _ fun a => by match a with | 0 => rfl

/-- The first number of pair `b` is batch number `b`, -/
theorem pairs_zero (Ln : IVec S16 32) (b : Fin 16) : pairs Ln (pairIdx b 0) = batches (fun | 0 => b) :=
  (concatenate_pair_apply_left (t := Cert.Reference.S16x2) (s₁ := Cert.Reference.S16x1) (s₂ := Cert.Reference.S16x1) 1 _ _ _ (pairIdx b 0) rfl (firstOf b) (fun a => by match a with | 0 => rfl | 1 => rfl)).trans
    (column_apply _ b)

/-- and the second is position `b`. -/
theorem pairs_one (Ln : IVec S16 32) (b : Fin 16) : pairs Ln (pairIdx b 1) = places Ln (fun | 0 => b) :=
  (concatenate_pair_apply_right (t := Cert.Reference.S16x2) (s₁ := Cert.Reference.S16x1) (s₂ := Cert.Reference.S16x1) 1 _ _ _ (pairIdx b 1) rfl rfl (firstOf b)
    (fun a h => by match a with | 0 => rfl | 1 => exact absurd rfl h) rfl).trans (column_apply _ b)

/-- The dimensions of the reference's gather: the pair's first number picks the batch entry, its second the position. -/
abbrev dims := Cert.Reference.gather_S16x4096x1024_S16x2_S16x1024_1_01_n_n_01_1_111024

/-- For the result's element `i`, the gather reads number `c` of the pair in row `i 0`. -/
theorem siIdx_eq (i : S16x1024.Idx) (c : Fin dims.startIndexMap.length) : dims.siIdx i c = pairIdx (i 0) c := by
  funext b
  match b with
  | 0 => rfl
  | 1 => rfl

/-- Where the pair numbers the place `(p, q)` inside the argument, the gather reads there, in the element's own column. -/
theorem gather_apply {α : Type} (X : S16x4096x1024.Idx → α) (ix : IVec Cert.Reference.S16x2 32) (i : S16x1024.Idx) (j : S16x4096x1024.Idx)
    (h0 : (ix (pairIdx (i 0) 0)).toInt.toNat = (j 0).val) (h1 : (ix (pairIdx (i 0) 1)).toInt.toNat = (j 1).val) (h2 : (j 2).val = (i 1).val) :
    Host.gather dims X ix i = X j := by
  unfold Host.gather
  congr 1
  funext a
  refine Fin.ext ?_
  show dims.start i ix a + dims.batchCoord i a + dims.offCoord i a = _
  rw [GatherDims.batchCoord_eq_zero _ _ _ List.not_mem_nil]
  have hj0 := (j 0).isLt
  have hj1 := (j 1).isLt
  change _ < 16 at hj0
  change _ < 4096 at hj1
  match a with
  | 0 =>
    rw [GatherDims.offCoord_eq_zero _ _ _ (fun h => ((GatherDims.mem_sKept _ _).mp h).1 (by decide))]
    unfold GatherDims.start
    rw [dif_pos (show (0 : Fin 3) ∈ dims.startIndexMap by decide), siIdx_eq]
    show min (ix (pairIdx (i 0) 0)).toInt.toNat (16 - 1) + 0 + 0 = _
    omega
  | 1 =>
    rw [GatherDims.offCoord_eq_zero _ _ _ (fun h => ((GatherDims.mem_sKept _ _).mp h).1 (by decide))]
    unfold GatherDims.start
    rw [dif_pos (show (1 : Fin 3) ∈ dims.startIndexMap by decide), siIdx_eq]
    show min (ix (pairIdx (i 0) 1)).toInt.toNat (4096 - 1) + 0 + 0 = _
    omega
  | 2 =>
    unfold GatherDims.start
    rw [dif_neg (show (2 : Fin 3) ∉ dims.startIndexMap by decide)]
    show 0 + 0 + (i 1).val = _
    omega

/-- So the reference's gather is the argument at the elements picked. -/
theorem reference_eq {α : Type} (X : S16x4096x1024.Idx → α) {Ln : IVec S16 32} (h : InRange Ln) (i : S16x1024.Idx) :
    Host.gather dims X (pairs Ln) i = X (pick Ln h i) :=
  gather_apply X _ i _ ((congrArg (fun v => v.toInt.toNat) (pairs_zero Ln (i 0))).trans (batches_apply _))
    ((congrArg (fun v => v.toInt.toNat) (pairs_one Ln (i 0))).trans (places_apply h _)) rfl

/-- What the program leaves is the reference's gather of the same argument and lengths. -/
theorem final_eq_reference (m : (ℓ : Loc nD τ sig) → Buf (Elt F) ℓ) (hL : LengthsOk m) (d : Dev nD) :
    (Host.gather dims (m (xLoc d)) (pairs (m (lsLoc d))) : S16x1024.Idx → Elt F .f32) = final m hL d :=
  funext fun i => (reference_eq _ (hL d) i).trans (final_eq m hL d i).symm

end Cert.Proof.Rows

end
-- ==== Proof.lean ====
/- The claims about the kernel that copies, for each of 16 batch entries, the row at the entry's last valid position.
   One scalar subcore reads the 16 lengths, starts the 16 row copies on one semaphore, and waits 16 times.

   The run is proved once, for any float values (`run_main`, in `Launch.lean`), and so is the equality of what it leaves with
   the reference's gather (`final_eq_reference`, in `Value.lean`). The theorems below read both off at the two kinds of
   float values. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Gen.Reference.Run
public import proofs.«01_k».proof.Proof.Gen.Pre_lengths_in_range
public import proofs.«01_k».proof.Proof.Launch
public import proofs.«01_k».proof.Proof.Value

@[expose] public section

noncomputable section

namespace Cert.Proof

open Idealize.ShloMosaic Idealize.SL.Sem Cert.Proof.Rows

/-! ## For any float values -/

section Generic

variable {F : FTy → Type} [FloatOps F]

/-- Where the precondition is true on every device, the lengths found at the launch are in range. -/
theorem lengthsOk {m : (ℓ : Loc Cert.KernelIdeal.nD Cert.KernelIdeal.τ Cert.KernelIdeal.sig) → Buf (Elt F) ℓ}
    (h : ∀ d, Cert.Pre_lengths_in_range.fn (F := F) (m (xLoc d)) (m (lsLoc d)) = fun _ => 1#1) : LengthsOk m :=
  fun d => inRange_of_pre (h d)

/-- The reference ends with its result at the gather of its arguments, the arguments unchanged and every semaphore at zero. -/
theorem run_reference (m : (ℓ : Loc Cert.Reference.nD Cert.Reference.τ Cert.Reference.sig) → Buf (Elt F) ℓ) (ρ : Dev Cert.Reference.nD → PrngReg) :
    θ_run (Cert.Reference.defs (F := F)) (onTc (τ := Cert.Reference.τ) (Cert.Reference.main (F := F))) ⟨m, fun _ => 0, ρ⟩ fun r =>
      (∀ c : Dev Cert.Reference.nD,
        r.2.mem ((c.tc : Thread Cert.Reference.nD Cert.Reference.τ).loc Cert.Reference.main_v16)
            = Host.gather dims (m ((c.tc : Thread Cert.Reference.nD Cert.Reference.τ).loc Cert.Reference.main_arg0))
                (pairs (m ((c.tc : Thread Cert.Reference.nD Cert.Reference.τ).loc Cert.Reference.main_arg1)))
          ∧ r.2.mem ((c.tc : Thread Cert.Reference.nD Cert.Reference.τ).loc Cert.Reference.main_arg0)
            = m ((c.tc : Thread Cert.Reference.nD Cert.Reference.τ).loc Cert.Reference.main_arg0)
          ∧ r.2.mem ((c.tc : Thread Cert.Reference.nD Cert.Reference.τ).loc Cert.Reference.main_arg1)
            = m ((c.tc : Thread Cert.Reference.nD Cert.Reference.τ).loc Cert.Reference.main_arg1))
      ∧ r.2.sem = fun _ => 0 :=
  (θ_run Cert.Reference.defs _ _).mono (fun r h => ⟨h, sem_eq_zero_of_no_sems (by decide) r.2⟩) (Cert.Reference.Value.run m ρ)

/-- From the same arguments the reference ends with the result that the kernel leaves. -/
theorem reference_agrees (m : (ℓ : Loc Cert.KernelIdeal.nD Cert.KernelIdeal.τ Cert.KernelIdeal.sig) → Buf (Elt F) ℓ) (hL : LengthsOk m)
    (m' : (ℓ : Loc Cert.Reference.nD Cert.Reference.τ Cert.Reference.sig) → Buf (Elt F) ℓ) (ρ' : Dev Cert.Reference.nD → PrngReg)
    (h : ∀ c : Dev Cert.KernelIdeal.nD,
      m' ((c.tc : Thread Cert.Reference.nD Cert.Reference.τ).loc Cert.Reference.main_arg0) = m (xLoc c)
      ∧ m' ((c.tc : Thread Cert.Reference.nD Cert.Reference.τ).loc Cert.Reference.main_arg1) = m (lsLoc c)) :
    θ_run (Cert.Reference.defs (F := F)) (onTc (τ := Cert.Reference.τ) (Cert.Reference.main (F := F))) ⟨m', fun _ => 0, ρ'⟩ fun r =>
      ∀ c : Dev Cert.Reference.nD,
        r.2.mem ((c.tc : Thread Cert.Reference.nD Cert.Reference.τ).loc Cert.Reference.main_v16) = final m hL c
          ∧ r.2.mem ((c.tc : Thread Cert.Reference.nD Cert.Reference.τ).loc Cert.Reference.main_arg0)
            = m' ((c.tc : Thread Cert.Reference.nD Cert.Reference.τ).loc Cert.Reference.main_arg0)
          ∧ r.2.mem ((c.tc : Thread Cert.Reference.nD Cert.Reference.τ).loc Cert.Reference.main_arg1)
            = m' ((c.tc : Thread Cert.Reference.nD Cert.Reference.τ).loc Cert.Reference.main_arg1) :=
  (θ_run Cert.Reference.defs _ _).mono (fun _ hr c =>
    ⟨(hr.1 c).1.trans ((congrArg₂ (fun x ln => Host.gather dims x (pairs ln)) (h c).1 (h c).2).trans (final_eq_reference m hL c)), (hr.1 c).2⟩)
    (run_reference m' ρ')

end Generic

/-! ## The frames -/

/-- The kernel on hardware floats ends with its arguments unchanged and every semaphore at zero. -/
theorem frame_kernel : Cert.quiescent_Kernel := fun m ρ h =>
  (θ_run Cert.KernelIdeal.defs _ _).mono (fun _ hr => ⟨fun c => ⟨(hr.1 c).1, (hr.1 c).2.1⟩, hr.2⟩) (run_main (F := Bits) m ρ (lengthsOk h))

/-- The kernel on exact numbers ends with its arguments unchanged and every semaphore at zero. -/
theorem frame_kernelIdeal : Cert.quiescent_KernelIdeal := fun m ρ h =>
  (θ_run Cert.KernelIdeal.defs _ _).mono (fun _ hr => ⟨fun c => ⟨(hr.1 c).1, (hr.1 c).2.1⟩, hr.2⟩) (run_main (F := Ideal) m ρ (lengthsOk h))

/-- The reference on exact numbers ends, from any arguments, with them unchanged and every semaphore at zero, -/
theorem frame_referenceIdeal : Cert.quiescent_ReferenceIdeal := fun m ρ _ =>
  (θ_run Cert.Reference.defs _ _).mono (fun _ hr => ⟨fun c => (hr.1 c).2, hr.2⟩) (run_reference (F := Ideal) m ρ)

/-- in particular from arguments that satisfy the precondition. -/
theorem frame_referenceIdeal_pre : Cert.quiescent_ReferenceIdeal_pre_lengths_in_range := fun m ρ _ => frame_referenceIdeal m ρ trivial

/-- The reference on hardware floats ends with its arguments unchanged and every semaphore at zero. -/
theorem frame_reference : Cert.quiescent_Reference := fun m ρ _ =>
  (θ_run Cert.Reference.defs _ _).mono (fun _ hr => ⟨fun c => (hr.1 c).2, hr.2⟩) (run_reference (F := Bits) m ρ)

/-! ## The values -/

/-- On exact numbers the kernel and the reference end with equal results. -/
theorem algebraic : Cert.algebraic_KernelIdeal_ReferenceIdeal := fun m ρ m' ρ' h hagree =>
  ⟨final m (lengthsOk h),
    (θ_run Cert.KernelIdeal.defs _ _).mono (fun _ hr c => ⟨(hr.1 c).2.2, (hr.1 c).1, (hr.1 c).2.1⟩) (run_main (F := Ideal) m ρ (lengthsOk h)),
    reference_agrees (F := Ideal) m (lengthsOk h) m' ρ' hagree⟩

/-- On hardware floats the kernel and the reference end with equal results, bit for bit. -/
theorem bitexact : Cert.bitexact_Kernel_Reference := fun m ρ m' ρ' h hagree =>
  ⟨final (F := Bits) m (lengthsOk h),
    (θ_run Cert.KernelIdeal.defs _ _).mono (fun _ hr c => ⟨(hr.1 c).2.2, (hr.1 c).1, (hr.1 c).2.1⟩) (run_main (F := Bits) m ρ (lengthsOk h)),
    reference_agrees (F := Bits) m (lengthsOk h) m' ρ' hagree⟩

/-- All the claims. -/
theorem claim : Cert.Claim :=
  ⟨Cert.Kernel.Gen.facts, Cert.KernelIdeal.Gen.facts, Cert.ReferenceIdeal.Gen.facts, Cert.Reference.Gen.facts, Cert.Pre_lengths_in_range.Gen.facts,
    frame_kernel, frame_kernelIdeal, frame_referenceIdeal, frame_referenceIdeal_pre, frame_reference, trivial, algebraic, bitexact⟩

end Cert.Proof

end
